-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16384x1024 : Shape := ⟨2, ![16384, 1024]⟩
abbrev S4x1024x1024 : Shape := ⟨3, ![4, 1024, 1024]⟩
abbrev S4 : Shape := ⟨1, ![4]⟩
abbrev S8 : Shape := ⟨1, ![8]⟩
abbrev S3 : Shape := ⟨1, ![3]⟩
abbrev S2 : Shape := ⟨1, ![2]⟩
abbrev S_ : Shape := ⟨0, ![]⟩
abbrev S1 : Shape := ⟨1, ![1]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x1024, .f32⟩
  | .hbm, ⟨1, _⟩ => ⟨S16384x1024, .f32⟩
  | .local _ .vmem, ⟨0, _⟩ => ⟨S4x1024x1024, .f32⟩
  | _, _ => ⟨S8192x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v28 : BitVec 32 := Scalar.muli v9 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_23 : BitVec 32 := 2#32
  let v36 : BitVec 32 := Scalar.muli v10 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_32 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32 : BitVec 32 := 8192#32
  let v12 : BitVec 32 := Scalar.muli v2 c8192_i32
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_31 : BitVec 32 := 2048#32
  let v48 : BitVec 32 := Scalar.muli v16 c2048_i32_31
  let v49 : BitVec 32 := Scalar.addi v12 v48
  let v50 : BitVec 32 := Scalar.addi v49 c0_i32_32
  let c0_i32_39 : BitVec 32 := 0#32
  ![v50.toNat, 0]
def k0_off2 (d0 : Dev nD) (c0_i32_30 : BitVec 32) : Fin 2 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32 : BitVec 32 := 2048#32
  let v46 : BitVec 32 := Scalar.muli v16 c2048_i32
  let v47 : BitVec 32 := Scalar.addi v46 c0_i32_30
  let c0_i32_40 : BitVec 32 := 0#32
  ![v47.toNat, 0]
def k0_dev4 (d0 : Dev nD) : Nat :=
  let c0_i32_36 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_35 : BitVec 32 := 4#32
  let v51 : BitVec 32 := Scalar.muli v9 c4_i32_35
  let v52 : BitVec 32 := Scalar.addi c0_i32_36 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v53 : BitVec 32 := Scalar.muli v5 c2_i32_37
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v55 : BitVec 32 := Scalar.muli v8 c1_i32_38
  let v56 : BitVec 32 := Scalar.addi v54 v55
  v56.toNat
def k0_dev5 (d0 : Dev nD) : Nat :=
  let c0_i32_47 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_46 : BitVec 32 := 4#32
  let v68 : BitVec 32 := Scalar.muli v9 c4_i32_46
  let v69 : BitVec 32 := Scalar.addi c0_i32_47 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v70 : BitVec 32 := Scalar.muli v5 c2_i32_48
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v72 : BitVec 32 := Scalar.muli v8 c1_i32_49
  let v73 : BitVec 32 := Scalar.addi v71 v72
  v73.toNat
def k0_dev6 (d0 : Dev nD) : Nat :=
  let c0_i32_58 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_57 : BitVec 32 := 4#32
  let v85 : BitVec 32 := Scalar.muli v9 c4_i32_57
  let v86 : BitVec 32 := Scalar.addi c0_i32_58 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v87 : BitVec 32 := Scalar.muli v5 c2_i32_59
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v89 : BitVec 32 := Scalar.muli v8 c1_i32_60
  let v90 : BitVec 32 := Scalar.addi v88 v89
  v90.toNat
def k0_dev7 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v102 : BitVec 32 := Scalar.muli v9 c4_i32_68
  let v103 : BitVec 32 := Scalar.addi c0_i32_69 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v104 : BitVec 32 := Scalar.muli v5 c2_i32_70
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v106 : BitVec 32 := Scalar.muli v8 c1_i32_71
  let v107 : BitVec 32 := Scalar.addi v105 v106
  v107.toNat
def k0_dev8 (d0 : Dev nD) : Nat :=
  let c0_i32_80 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_79 : BitVec 32 := 4#32
  let v119 : BitVec 32 := Scalar.muli v9 c4_i32_79
  let v120 : BitVec 32 := Scalar.addi c0_i32_80 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v121 : BitVec 32 := Scalar.muli v5 c2_i32_81
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v123 : BitVec 32 := Scalar.muli v8 c1_i32_82
  let v124 : BitVec 32 := Scalar.addi v122 v123
  v124.toNat
def k0_dev9 (d0 : Dev nD) : Nat :=
  let c0_i32_90 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_89 : BitVec 32 := 4#32
  let v136 : BitVec 32 := Scalar.muli v9 c4_i32_89
  let v137 : BitVec 32 := Scalar.addi c0_i32_90 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v138 : BitVec 32 := Scalar.muli v5 c2_i32_91
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v140 : BitVec 32 := Scalar.muli v8 c1_i32_92
  let v141 : BitVec 32 := Scalar.addi v139 v140
  v141.toNat
def k0_dev10 (d0 : Dev nD) : Nat :=
  let c0_i32_100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_99 : BitVec 32 := 4#32
  let v153 : BitVec 32 := Scalar.muli v9 c4_i32_99
  let v154 : BitVec 32 := Scalar.addi c0_i32_100 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v155 : BitVec 32 := Scalar.muli v5 c2_i32_101
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v157 : BitVec 32 := Scalar.muli v8 c1_i32_102
  let v158 : BitVec 32 := Scalar.addi v156 v157
  v158.toNat
def k0_dev11 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v170 : BitVec 32 := Scalar.muli v9 c4_i32_109
  let v171 : BitVec 32 := Scalar.addi c0_i32_110 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v172 : BitVec 32 := Scalar.muli v5 c2_i32_111
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v174 : BitVec 32 := Scalar.muli v8 c1_i32_112
  let v175 : BitVec 32 := Scalar.addi v173 v174
  v175.toNat
def k0_off3 (d0 : Dev nD) (c0_i32_118 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32 : BitVec 32 := 8192#32
  let v12 : BitVec 32 := Scalar.muli v2 c8192_i32
  let c2_i32_14 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2048_i32_117 : BitVec 32 := 2048#32
  let v184 : BitVec 32 := Scalar.muli v26 c2048_i32_117
  let v185 : BitVec 32 := Scalar.addi v12 v184
  let v186 : BitVec 32 := Scalar.addi v185 c0_i32_118
  let c0_i32_125 : BitVec 32 := 0#32
  ![v186.toNat, 0]
def k0_off4 (d0 : Dev nD) (c0_i32_116 : BitVec 32) : Fin 2 → Nat :=
  let c2_i32_14 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2048_i32_115 : BitVec 32 := 2048#32
  let v182 : BitVec 32 := Scalar.muli v26 c2048_i32_115
  let v183 : BitVec 32 := Scalar.addi v182 c0_i32_116
  let c0_i32_126 : BitVec 32 := 0#32
  ![v183.toNat, 0]
def k0_dev12 (d0 : Dev nD) : Nat :=
  let c0_i32_122 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_121 : BitVec 32 := 4#32
  let v187 : BitVec 32 := Scalar.muli v9 c4_i32_121
  let v188 : BitVec 32 := Scalar.addi c0_i32_122 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v189 : BitVec 32 := Scalar.muli v5 c2_i32_123
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v191 : BitVec 32 := Scalar.muli v8 c1_i32_124
  let v192 : BitVec 32 := Scalar.addi v190 v191
  v192.toNat
def k0_dev13 (d0 : Dev nD) : Nat :=
  let c0_i32_134 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_133 : BitVec 32 := 4#32
  let v204 : BitVec 32 := Scalar.muli v9 c4_i32_133
  let v205 : BitVec 32 := Scalar.addi c0_i32_134 v204
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v206 : BitVec 32 := Scalar.muli v5 c2_i32_135
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v208 : BitVec 32 := Scalar.muli v8 c1_i32_136
  let v209 : BitVec 32 := Scalar.addi v207 v208
  v209.toNat
def k0_dev14 (d0 : Dev nD) : Nat :=
  let c0_i32_146 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_145 : BitVec 32 := 4#32
  let v221 : BitVec 32 := Scalar.muli v9 c4_i32_145
  let v222 : BitVec 32 := Scalar.addi c0_i32_146 v221
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v223 : BitVec 32 := Scalar.muli v5 c2_i32_147
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v225 : BitVec 32 := Scalar.muli v8 c1_i32_148
  let v226 : BitVec 32 := Scalar.addi v224 v225
  v226.toNat
def k0_off5 (d0 : Dev nD) (c0_i32_169 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c8192_i32 : BitVec 32 := 8192#32
  let v12 : BitVec 32 := Scalar.muli v2 c8192_i32
  let v248 : BitVec 32 := Scalar.addi v12 c0_i32_169
  let c0_i32_172 : BitVec 32 := 0#32
  ![v248.toNat, 0]
def k0_off6 (d0 : Dev nD) (c0_i32_311 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c8192_i32_7 : BitVec 32 := 8192#32
  let v14 : BitVec 32 := Scalar.muli v13 c8192_i32_7
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32_310 : BitVec 32 := 2048#32
  let v381 : BitVec 32 := Scalar.muli v16 c2048_i32_310
  let v382 : BitVec 32 := Scalar.addi v14 v381
  let v383 : BitVec 32 := Scalar.addi v382 c0_i32_311
  let c0_i32_318 : BitVec 32 := 0#32
  ![v383.toNat, 0]
def k0_dev15 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v394 : BitVec 32 := Scalar.muli v2 c4_i32_323
  let v395 : BitVec 32 := Scalar.addi c0_i32_324 v394
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_325 : BitVec 32 := 2#32
  let v396 : BitVec 32 := Scalar.muli v10 c2_i32_325
  let v397 : BitVec 32 := Scalar.addi v395 v396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v398 : BitVec 32 := Scalar.muli v8 c1_i32_326
  let v399 : BitVec 32 := Scalar.addi v397 v398
  v399.toNat
def k0_dev16 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_331 : BitVec 32 := 4#32
  let v406 : BitVec 32 := Scalar.muli v2 c4_i32_331
  let v407 : BitVec 32 := Scalar.addi c0_i32_332 v406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_333 : BitVec 32 := 2#32
  let v408 : BitVec 32 := Scalar.muli v5 c2_i32_333
  let v409 : BitVec 32 := Scalar.addi v407 v408
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_334 : BitVec 32 := 1#32
  let v410 : BitVec 32 := Scalar.muli v11 c1_i32_334
  let v411 : BitVec 32 := Scalar.addi v409 v410
  v411.toNat
def k0_dev17 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v431 : BitVec 32 := Scalar.muli v2 c4_i32_350
  let v432 : BitVec 32 := Scalar.addi c0_i32_351 v431
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_352 : BitVec 32 := 2#32
  let v433 : BitVec 32 := Scalar.muli v10 c2_i32_352
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v435 : BitVec 32 := Scalar.muli v8 c1_i32_353
  let v436 : BitVec 32 := Scalar.addi v434 v435
  v436.toNat
def k0_dev18 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v443 : BitVec 32 := Scalar.muli v2 c4_i32_358
  let v444 : BitVec 32 := Scalar.addi c0_i32_359 v443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v445 : BitVec 32 := Scalar.muli v5 c2_i32_360
  let v446 : BitVec 32 := Scalar.addi v444 v445
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_361 : BitVec 32 := 1#32
  let v447 : BitVec 32 := Scalar.muli v11 c1_i32_361
  let v448 : BitVec 32 := Scalar.addi v446 v447
  v448.toNat
def k0_dev19 (d0 : Dev nD) : Nat :=
  let c0_i32_378 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_377 : BitVec 32 := 4#32
  let v468 : BitVec 32 := Scalar.muli v2 c4_i32_377
  let v469 : BitVec 32 := Scalar.addi c0_i32_378 v468
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_379 : BitVec 32 := 2#32
  let v470 : BitVec 32 := Scalar.muli v10 c2_i32_379
  let v471 : BitVec 32 := Scalar.addi v469 v470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_380 : BitVec 32 := 1#32
  let v472 : BitVec 32 := Scalar.muli v8 c1_i32_380
  let v473 : BitVec 32 := Scalar.addi v471 v472
  v473.toNat
def k0_dev20 (d0 : Dev nD) : Nat :=
  let c0_i32_386 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_385 : BitVec 32 := 4#32
  let v480 : BitVec 32 := Scalar.muli v2 c4_i32_385
  let v481 : BitVec 32 := Scalar.addi c0_i32_386 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_387 : BitVec 32 := 2#32
  let v482 : BitVec 32 := Scalar.muli v5 c2_i32_387
  let v483 : BitVec 32 := Scalar.addi v481 v482
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_388 : BitVec 32 := 1#32
  let v484 : BitVec 32 := Scalar.muli v11 c1_i32_388
  let v485 : BitVec 32 := Scalar.addi v483 v484
  v485.toNat
def k0_dev21 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v505 : BitVec 32 := Scalar.muli v2 c4_i32_404
  let v506 : BitVec 32 := Scalar.addi c0_i32_405 v505
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_406 : BitVec 32 := 2#32
  let v507 : BitVec 32 := Scalar.muli v10 c2_i32_406
  let v508 : BitVec 32 := Scalar.addi v506 v507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_407 : BitVec 32 := 1#32
  let v509 : BitVec 32 := Scalar.muli v8 c1_i32_407
  let v510 : BitVec 32 := Scalar.addi v508 v509
  v510.toNat
def k0_dev22 (d0 : Dev nD) : Nat :=
  let c0_i32_413 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_412 : BitVec 32 := 4#32
  let v517 : BitVec 32 := Scalar.muli v2 c4_i32_412
  let v518 : BitVec 32 := Scalar.addi c0_i32_413 v517
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v519 : BitVec 32 := Scalar.muli v5 c2_i32_414
  let v520 : BitVec 32 := Scalar.addi v518 v519
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_415 : BitVec 32 := 1#32
  let v521 : BitVec 32 := Scalar.muli v11 c1_i32_415
  let v522 : BitVec 32 := Scalar.addi v520 v521
  v522.toNat
def k0_dev23 (d0 : Dev nD) : Nat :=
  let c0_i32_432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_431 : BitVec 32 := 4#32
  let v542 : BitVec 32 := Scalar.muli v2 c4_i32_431
  let v543 : BitVec 32 := Scalar.addi c0_i32_432 v542
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_433 : BitVec 32 := 2#32
  let v544 : BitVec 32 := Scalar.muli v10 c2_i32_433
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_434 : BitVec 32 := 1#32
  let v546 : BitVec 32 := Scalar.muli v8 c1_i32_434
  let v547 : BitVec 32 := Scalar.addi v545 v546
  v547.toNat
def k0_dev24 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v554 : BitVec 32 := Scalar.muli v2 c4_i32_439
  let v555 : BitVec 32 := Scalar.addi c0_i32_440 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v556 : BitVec 32 := Scalar.muli v5 c2_i32_441
  let v557 : BitVec 32 := Scalar.addi v555 v556
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_442 : BitVec 32 := 1#32
  let v558 : BitVec 32 := Scalar.muli v11 c1_i32_442
  let v559 : BitVec 32 := Scalar.addi v557 v558
  v559.toNat
def k0_dev25 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v579 : BitVec 32 := Scalar.muli v2 c4_i32_458
  let v580 : BitVec 32 := Scalar.addi c0_i32_459 v579
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_460 : BitVec 32 := 2#32
  let v581 : BitVec 32 := Scalar.muli v10 c2_i32_460
  let v582 : BitVec 32 := Scalar.addi v580 v581
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_461 : BitVec 32 := 1#32
  let v583 : BitVec 32 := Scalar.muli v8 c1_i32_461
  let v584 : BitVec 32 := Scalar.addi v582 v583
  v584.toNat
def k0_dev26 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_466 : BitVec 32 := 4#32
  let v591 : BitVec 32 := Scalar.muli v2 c4_i32_466
  let v592 : BitVec 32 := Scalar.addi c0_i32_467 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_468 : BitVec 32 := 2#32
  let v593 : BitVec 32 := Scalar.muli v5 c2_i32_468
  let v594 : BitVec 32 := Scalar.addi v592 v593
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_469 : BitVec 32 := 1#32
  let v595 : BitVec 32 := Scalar.muli v11 c1_i32_469
  let v596 : BitVec 32 := Scalar.addi v594 v595
  v596.toNat
def k0_dev27 (d0 : Dev nD) : Nat :=
  let c0_i32_486 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_485 : BitVec 32 := 4#32
  let v616 : BitVec 32 := Scalar.muli v2 c4_i32_485
  let v617 : BitVec 32 := Scalar.addi c0_i32_486 v616
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_487 : BitVec 32 := 2#32
  let v618 : BitVec 32 := Scalar.muli v10 c2_i32_487
  let v619 : BitVec 32 := Scalar.addi v617 v618
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_488 : BitVec 32 := 1#32
  let v620 : BitVec 32 := Scalar.muli v8 c1_i32_488
  let v621 : BitVec 32 := Scalar.addi v619 v620
  v621.toNat
def k0_dev28 (d0 : Dev nD) : Nat :=
  let c0_i32_494 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_493 : BitVec 32 := 4#32
  let v628 : BitVec 32 := Scalar.muli v2 c4_i32_493
  let v629 : BitVec 32 := Scalar.addi c0_i32_494 v628
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_495 : BitVec 32 := 2#32
  let v630 : BitVec 32 := Scalar.muli v5 c2_i32_495
  let v631 : BitVec 32 := Scalar.addi v629 v630
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_496 : BitVec 32 := 1#32
  let v632 : BitVec 32 := Scalar.muli v11 c1_i32_496
  let v633 : BitVec 32 := Scalar.addi v631 v632
  v633.toNat
def k0_dev29 (d0 : Dev nD) : Nat :=
  let c0_i32_513 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_512 : BitVec 32 := 4#32
  let v653 : BitVec 32 := Scalar.muli v2 c4_i32_512
  let v654 : BitVec 32 := Scalar.addi c0_i32_513 v653
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_514 : BitVec 32 := 2#32
  let v655 : BitVec 32 := Scalar.muli v10 c2_i32_514
  let v656 : BitVec 32 := Scalar.addi v654 v655
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_515 : BitVec 32 := 1#32
  let v657 : BitVec 32 := Scalar.muli v8 c1_i32_515
  let v658 : BitVec 32 := Scalar.addi v656 v657
  v658.toNat
def k0_dev30 (d0 : Dev nD) : Nat :=
  let c0_i32_521 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_520 : BitVec 32 := 4#32
  let v665 : BitVec 32 := Scalar.muli v2 c4_i32_520
  let v666 : BitVec 32 := Scalar.addi c0_i32_521 v665
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_522 : BitVec 32 := 2#32
  let v667 : BitVec 32 := Scalar.muli v5 c2_i32_522
  let v668 : BitVec 32 := Scalar.addi v666 v667
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_523 : BitVec 32 := 1#32
  let v669 : BitVec 32 := Scalar.muli v11 c1_i32_523
  let v670 : BitVec 32 := Scalar.addi v668 v669
  v670.toNat
def k0_off7 (d0 : Dev nD) (c0_i32_527 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c8192_i32_7 : BitVec 32 := 8192#32
  let v14 : BitVec 32 := Scalar.muli v13 c8192_i32_7
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_526 : BitVec 32 := 2048#32
  let v677 : BitVec 32 := Scalar.muli v19 c2048_i32_526
  let v678 : BitVec 32 := Scalar.addi v14 v677
  let v679 : BitVec 32 := Scalar.addi v678 c0_i32_527
  let c0_i32_534 : BitVec 32 := 0#32
  ![v679.toNat, 0]
def k0_off8 (d0 : Dev nD) (c0_i32_538 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c8192_i32_7 : BitVec 32 := 8192#32
  let v14 : BitVec 32 := Scalar.muli v13 c8192_i32_7
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c2048_i32_537 : BitVec 32 := 2048#32
  let v690 : BitVec 32 := Scalar.muli v22 c2048_i32_537
  let v691 : BitVec 32 := Scalar.addi v14 v690
  let v692 : BitVec 32 := Scalar.addi v691 c0_i32_538
  let c0_i32_545 : BitVec 32 := 0#32
  ![v692.toNat, 0]
def k0_dev31 (d0 : Dev nD) : Nat :=
  let c0_i32_619 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_618 : BitVec 32 := 4#32
  let v784 : BitVec 32 := Scalar.muli v2 c4_i32_618
  let v785 : BitVec 32 := Scalar.addi c0_i32_619 v784
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_620 : BitVec 32 := 2#32
  let v786 : BitVec 32 := Scalar.muli v10 c2_i32_620
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_621 : BitVec 32 := 1#32
  let v788 : BitVec 32 := Scalar.muli v8 c1_i32_621
  let v789 : BitVec 32 := Scalar.addi v787 v788
  v789.toNat
def k0_dev32 (d0 : Dev nD) : Nat :=
  let c0_i32_651 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_650 : BitVec 32 := 4#32
  let v825 : BitVec 32 := Scalar.muli v2 c4_i32_650
  let v826 : BitVec 32 := Scalar.addi c0_i32_651 v825
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_652 : BitVec 32 := 2#32
  let v827 : BitVec 32 := Scalar.muli v10 c2_i32_652
  let v828 : BitVec 32 := Scalar.addi v826 v827
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_653 : BitVec 32 := 1#32
  let v829 : BitVec 32 := Scalar.muli v8 c1_i32_653
  let v830 : BitVec 32 := Scalar.addi v828 v829
  v830.toNat
def k0_dev33 (d0 : Dev nD) : Nat :=
  let c0_i32_683 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_682 : BitVec 32 := 4#32
  let v866 : BitVec 32 := Scalar.muli v2 c4_i32_682
  let v867 : BitVec 32 := Scalar.addi c0_i32_683 v866
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_684 : BitVec 32 := 2#32
  let v868 : BitVec 32 := Scalar.muli v10 c2_i32_684
  let v869 : BitVec 32 := Scalar.addi v867 v868
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_685 : BitVec 32 := 1#32
  let v870 : BitVec 32 := Scalar.muli v8 c1_i32_685
  let v871 : BitVec 32 := Scalar.addi v869 v870
  v871.toNat
def k0_dev34 (d0 : Dev nD) : Nat :=
  let c0_i32_704 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_703 : BitVec 32 := 4#32
  let v894 : BitVec 32 := Scalar.muli v2 c4_i32_703
  let v895 : BitVec 32 := Scalar.addi c0_i32_704 v894
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_705 : BitVec 32 := 2#32
  let v896 : BitVec 32 := Scalar.muli v5 c2_i32_705
  let v897 : BitVec 32 := Scalar.addi v895 v896
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_706 : BitVec 32 := 1#32
  let v898 : BitVec 32 := Scalar.muli v11 c1_i32_706
  let v899 : BitVec 32 := Scalar.addi v897 v898
  v899.toNat
def k0_dev35 (d0 : Dev nD) : Nat :=
  let c0_i32_736 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_735 : BitVec 32 := 4#32
  let v935 : BitVec 32 := Scalar.muli v2 c4_i32_735
  let v936 : BitVec 32 := Scalar.addi c0_i32_736 v935
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_737 : BitVec 32 := 2#32
  let v937 : BitVec 32 := Scalar.muli v5 c2_i32_737
  let v938 : BitVec 32 := Scalar.addi v936 v937
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_738 : BitVec 32 := 1#32
  let v939 : BitVec 32 := Scalar.muli v11 c1_i32_738
  let v940 : BitVec 32 := Scalar.addi v938 v939
  v940.toNat
def k0_off9 (d0 : Dev nD) (c0_i32_753 : BitVec 32) : Fin 2 → Nat :=
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c8192_i32_7 : BitVec 32 := 8192#32
  let v14 : BitVec 32 := Scalar.muli v13 c8192_i32_7
  let c2_i32_14 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2048_i32_752 : BitVec 32 := 2048#32
  let v960 : BitVec 32 := Scalar.muli v26 c2048_i32_752
  let v961 : BitVec 32 := Scalar.addi v14 v960
  let v962 : BitVec 32 := Scalar.addi v961 c0_i32_753
  let c0_i32_760 : BitVec 32 := 0#32
  ![v962.toNat, 0]
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Plan.lean ====
/-
# `Plan`: what the eight devices do, as data

The mesh is `2 × 2 × 2`; device `d` has the bits `x = d / 4`, `y = d / 2 % 2`, `z = d % 2`. Every device moves its own
half of the array into its output locally, slab by slab through four scratch slots, and receives the other half in
thirty-two chunks of 256 rows, each from one of its three neighbours. This module names the transfers, the operations
of a device's program, and states that the printed body is the list of these operations in order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.GatherIdeal

open Cert.KernelIdeal Cert.KernelIdeal.Gen
open Idealize.ShloMosaic Idealize.ShloMosaic.TcCoe Idealize.SL.Sem

variable {F : FTy → Type} [FloatOps F]

/-! ## Directions and neighbours -/

/-- The neighbour of `c` along direction `d` (0: x, 1: y, 2: z): the device whose bit of that direction is the other. -/
def nb : Fin 3 → Dev nD → Dev nD
  | 0, c => ⟨k0_dev1 c, k0_dev1_lt c⟩
  | 1, c => ⟨k0_dev2 c, k0_dev2_lt c⟩
  | 2, c => ⟨k0_dev3 c, k0_dev3_lt c⟩

/-- A neighbour's neighbour in the same direction is the device itself. -/
theorem nb_nb (d : Fin 3) (c : Dev nD) : nb d (nb d c) = c := by revert d c; decide +kernel

/-- A device's neighbours in two directions are different devices. -/
theorem nb_inj (c : Dev nD) : Function.Injective fun d => nb d c := by revert c; decide +kernel

/-! ## The transfers -/

/-- The remote transfers a device issues, named by the send semaphore each uses. -/
inductive T : Type
  | X (k : Fin 8) | XD (k : Fin 3) | YD (k : Fin 8) | ZD (k : Fin 8) | YDG (k : Fin 3) | ZDG (k : Fin 2)
  deriving DecidableEq

/-- The transfers of a device as the disjoint union of their families. -/
def tEquiv : (Fin 8 ⊕ Fin 3) ⊕ (Fin 8 ⊕ Fin 8) ⊕ (Fin 3 ⊕ Fin 2) ≃ T where
  toFun
    | .inl (.inl k) => .X k | .inl (.inr k) => .XD k | .inr (.inl (.inl k)) => .YD k | .inr (.inl (.inr k)) => .ZD k
    | .inr (.inr (.inl k)) => .YDG k | .inr (.inr (.inr k)) => .ZDG k
  invFun
    | .X k => .inl (.inl k) | .XD k => .inl (.inr k) | .YD k => .inr (.inl (.inl k)) | .ZD k => .inr (.inl (.inr k))
    | .YDG k => .inr (.inr (.inl k)) | .ZDG k => .inr (.inr (.inr k))
  left_inv := by rintro ((k | k) | (k | k) | (k | k)) <;> rfl
  right_inv := by rintro (k | k | k | k | k | k) <;> rfl

instance : Fintype T := Fintype.ofEquiv _ tEquiv

/-- The direction a transfer goes. -/
def T.dir : T → Fin 3
  | .X _ => 0 | .XD _ => 0 | .YD _ => 1 | .ZD _ => 2 | .YDG _ => 1 | .ZDG _ => 2

/-- The send semaphore of a transfer. -/
def sS : T → DmaSem sig
  | .X k => ⟨8 + k, by change _ < 72; omega⟩ | .XD k => ⟨24 + k, by change _ < 72; omega⟩
  | .YD k => ⟨30 + k, by change _ < 72; omega⟩ | .ZD k => ⟨46 + k, by change _ < 72; omega⟩
  | .YDG k => ⟨62 + k, by change _ < 72; omega⟩ | .ZDG k => ⟨68 + k, by change _ < 72; omega⟩

/-- The receive semaphore of a transfer. -/
def rS : T → DmaSem sig
  | .X k => ⟨16 + k, by change _ < 72; omega⟩ | .XD k => ⟨27 + k, by change _ < 72; omega⟩
  | .YD k => ⟨38 + k, by change _ < 72; omega⟩ | .ZD k => ⟨54 + k, by change _ < 72; omega⟩
  | .YDG k => ⟨65 + k, by change _ < 72; omega⟩ | .ZDG k => ⟨70 + k, by change _ < 72; omega⟩

/-- The semaphores of the local loads and stores, by scratch slot. -/
def ldS (s : Fin 4) : DmaSem sig := ⟨s, by change _ < 72; omega⟩
def stS (s : Fin 4) : DmaSem sig := ⟨4 + s, by change _ < 72; omega⟩

/-- The runtime's barrier semaphore. -/
abbrev barS : Sem sig := (SemArray.scalar (sig.barrier 0 rfl) : Sems sig S_).sem

/-! ## The memrefs -/

/-- 256 rows of the device's argument. -/
abbrev xAt (off : Fin 2 → ℕ) (h : ∀ a, off a + S256x1024.size a ≤ S8192x1024.size a) : Memref sig .tc .hbm S256x1024 .f32 :=
  (Memref.whole main_arg0).slice (Rect.unit (s := S8192x1024) off S256x1024.size h) (fun _ => rfl)
/-- 256 rows of the device's output. -/
abbrev oAt (off : Fin 2 → ℕ) (h : ∀ a, off a + S256x1024.size a ≤ S16384x1024.size a) : Memref sig .tc .hbm S256x1024 .f32 :=
  (Memref.whole main_v1).slice (Rect.unit (s := S16384x1024) off S256x1024.size h) (fun _ => rfl)

theorem xSlab_inb (i : Fin 8) : ∀ a, (![1024 * i.val, 0] : Fin 2 → ℕ) a + S1024x1024.size a ≤ S8192x1024.size a := by
  revert i; decide +kernel
/-- Slab `i` of the argument: 1024 rows. -/
abbrev xSlab (i : Fin 8) : Memref sig .tc .hbm S1024x1024 .f32 :=
  (Memref.whole main_arg0).slice (Rect.unit (s := S8192x1024) ![1024 * i.val, 0] S1024x1024.size (xSlab_inb i)) (fun _ => rfl)
/-- Slab `i` of the device's own half of its output. -/
abbrev oSlab (c : Dev nD) (i : Fin 8) : Memref sig .tc .hbm S1024x1024 .f32 :=
  (Memref.whole main_v1).slice (Rect.unit (s := S16384x1024) (k0_off5 c (BitVec.ofNat 32 (1024 * i.val))) S1024x1024.size (k0_off5_inb c i))
    (fun _ => rfl)

theorem slot_inb (s : Fin 4) : ∀ a, (![s.val, 0, 0] : Fin 3 → ℕ) a + S1x1024x1024.size a ≤ S4x1024x1024.size a := by
  revert s; decide +kernel
/-- Scratch slot `s`, as 1024 rows. -/
abbrev slot (s : Fin 4) : Memref sig .tc .vmem S1024x1024 .f32 :=
  ((Memref.whole cc0_scratch0).slice (Rect.unit (s := S4x1024x1024) ![s.val, 0, 0] S1x1024x1024.size (slot_inb s)) (fun _ => rfl)).squeeze
    S1024x1024 squeezes_S1x1024x1024_S1024x1024

/-- The slot slab `i` passes through. -/
def slotOf (i : Fin 8) : Fin 4 := ⟨i.val % 4, by omega⟩

/-- The rows a device reads for a transfer. -/
def srcM (c : Dev nD) : T → Memref sig .tc .hbm S256x1024 .f32
  | .X k => xAt (k0_off2 c (BitVec.ofNat 32 (256 * k.val))) (k0_off2_inb c k)
  | .XD k => xAt (k0_off4 c (BitVec.ofNat 32 (256 * k.val))) (k0_off4_inb c k)
  | .YD k => oAt (k0_off6 c (BitVec.ofNat 32 (256 * k.val))) (k0_off6_inb c k)
  | .ZD k => oAt (k0_off6 c (BitVec.ofNat 32 (256 * k.val))) (k0_off6_inb c k)
  | .YDG k => oAt (k0_off8 c (BitVec.ofNat 32 (256 * (k.val + 3)))) (k0_off8_inb c ⟨k.val + 3, by omega⟩)
  | .ZDG k => oAt (k0_off7 c (BitVec.ofNat 32 (256 * (k.val + 6)))) (k0_off7_inb c ⟨k.val + 6, by omega⟩)

/-- Where in the neighbour's output a transfer from `c` starts to write. -/
def dstOff (c : Dev nD) : T → Fin 2 → ℕ
  | .X k => k0_off1 c (BitVec.ofNat 32 (256 * k.val))
  | .XD k => k0_off3 c (BitVec.ofNat 32 (256 * k.val))
  | .YD k => k0_off6 c (BitVec.ofNat 32 (256 * k.val))
  | .ZD k => k0_off6 c (BitVec.ofNat 32 (256 * k.val))
  | .YDG k => k0_off8 c (BitVec.ofNat 32 (256 * (k.val + 3)))
  | .ZDG k => k0_off7 c (BitVec.ofNat 32 (256 * (k.val + 6)))

theorem dstOff_inb (c : Dev nD) : ∀ t : T, ∀ a, dstOff c t a + S256x1024.size a ≤ S16384x1024.size a
  | .X k => k0_off1_inb c k
  | .XD k => k0_off3_inb c k
  | .YD k => k0_off6_inb c k
  | .ZD k => k0_off6_inb c k
  | .YDG k => k0_off8_inb c ⟨k.val + 3, by omega⟩
  | .ZDG k => k0_off7_inb c ⟨k.val + 6, by omega⟩

/-- Where in its own output a device finds what a transfer brought. -/
def landOff (c : Dev nD) : T → Fin 2 → ℕ
  | .X k => k0_off6 c (BitVec.ofNat 32 (256 * k.val))
  | .XD k => k0_off9 c (BitVec.ofNat 32 (256 * k.val))
  | .YD k => k0_off7 c (BitVec.ofNat 32 (256 * k.val))
  | .ZD k => k0_off8 c (BitVec.ofNat 32 (256 * k.val))
  | .YDG k => k0_off9 c (BitVec.ofNat 32 (256 * (k.val + 3)))
  | .ZDG k => k0_off9 c (BitVec.ofNat 32 (256 * (k.val + 6)))

theorem landOff_inb (c : Dev nD) : ∀ t : T, ∀ a, landOff c t a + S256x1024.size a ≤ S16384x1024.size a
  | .X k => k0_off6_inb c k
  | .XD k => k0_off9_inb c ⟨k.val, by omega⟩
  | .YD k => k0_off7_inb c k
  | .ZD k => k0_off8_inb c k
  | .YDG k => k0_off9_inb c ⟨k.val + 3, by omega⟩
  | .ZDG k => k0_off9_inb c ⟨k.val + 6, by omega⟩

/-- The rows of the neighbour's output a transfer from `c` writes. -/
abbrev dstM (c : Dev nD) (t : T) : Memref sig .tc .hbm S256x1024 .f32 := oAt (dstOff c t) (dstOff_inb c t)

/-- The rows of its own output a device names when it waits for a transfer to arrive: where it lands. -/
abbrev landM (c : Dev nD) (t : T) : Memref sig .tc .hbm S256x1024 .f32 := oAt (landOff c t) (landOff_inb c t)

theorem x0_inb : ∀ a, (![0, 0] : Fin 2 → ℕ) a + S256x1024.size a ≤ S8192x1024.size a := by decide +kernel

theorem src_wordExact (c : Dev nD) (t : T) : (srcM c t).view.WordExact := View.wordExact_bits rfl
theorem dst_wordExact (c : Dev nD) (t : T) : (dstM c t).view.WordExact := View.wordExact_bits rfl
theorem land_wordExact (c : Dev nD) (t : T) : (landM c t).view.WordExact := View.wordExact_bits rfl
theorem slot_wordExact (s : Fin 4) : (slot s).view.WordExact := (View.wordExact_bits rfl).reshape _ _

/-! ## The operations -/

/-- The operations of a device's program after its device number is read. -/
inductive Op : Type
  | sig (d : Fin 3) | bar | send (t : T) | sent (t : T) | recv (t : T)
  | ld (i : Fin 8) | ldW (i : Fin 8) | st (i : Fin 8) | stW (i : Fin 8)

/-- Each operation as the printed program has it. -/
def eff (c : Dev nD) : Op → TpuEff nD τ sig (Elt F) Λ₀ .tc PUnit
  | .sig d => .semSignal (nb d c, .tc) barS (1#32 : BitVec 32).toInt
  | .bar => .semWait barS (3#32 : BitVec 32).toInt
  | .send t => .enqueueDma (srcM c t) (.remote (Dev.tc (nb t.dir c)) (dstM c t) (.dma (sS t))) (.dma (rS t))
      (src_wordExact c t) (dst_wordExact c t) ⟨⟨rfl, Or.inl rfl⟩, trivial⟩
  | .sent t => .waitDma2 (sS t) (srcM c t) (srcM c t) (src_wordExact c t) (src_wordExact c t)
  | .recv t => .waitDma2 (rS t) (xAt ![0, 0] x0_inb) (landM c t) (View.wordExact_bits rfl) (land_wordExact c t)
  | .ld i => .enqueueDma (xSlab i) (.here (slot (slotOf i))) (.dma (ldS (slotOf i))) (View.wordExact_bits rfl) (slot_wordExact _)
      ⟨Or.inl rfl, trivial⟩
  | .ldW i => .waitDma2 (ldS (slotOf i)) (xSlab i) (slot (slotOf i)) (View.wordExact_bits rfl) (slot_wordExact _)
  | .st i => .enqueueDma (slot (slotOf i)) (.here (oSlab c i)) (.dma (stS (slotOf i))) (slot_wordExact _) (View.wordExact_bits rfl)
      ⟨Or.inl rfl, trivial⟩
  | .stW i => .waitDma2 (stS (slotOf i)) (slot (slotOf i)) (oSlab c i) (slot_wordExact _) (View.wordExact_bits rfl)

/-- A list of operations as a program. -/
def prog (c : Dev nD) : List Op → Prog (TpuEff nD τ sig (Elt F) Λ₀ .tc) PUnit
  | [] => .ret ⟨⟩
  | o :: l => .op (eff c o) fun _ => prog c l

/-- The eleven transfers along x, out of the argument; -/
def opsX : List Op := (List.finRange 8).map (fun k => .send (.X k)) ++ (List.finRange 3).map fun k => .send (.XD k)
/-- the local copy, up to the last store; -/
def opsLocal : List Op :=
  [.ld 0, .ld 1, .ldW 0, .st 0, .ld 2, .ldW 1, .st 1, .ld 3, .ldW 2, .st 2, .stW 0, .ld 4, .ldW 3, .st 3, .stW 1, .ld 5,
   .ldW 4, .st 4, .stW 2, .ld 6, .ldW 5, .st 5, .stW 3, .ld 7, .ldW 6, .st 6, .ldW 7, .st 7]
/-- each chunk arrived along x passed on along y and z; -/
def opsPass : List Op := (List.finRange 8).flatMap fun k => [.recv (.X k), .send (.YD k), .send (.ZD k)]
/-- the chunks arrived along y and z, five of them passed on once more; -/
def opsDiag : List Op :=
  [.recv (.YD 0), .recv (.ZD 0), .recv (.YD 1), .recv (.ZD 1), .recv (.YD 2), .recv (.ZD 2),
   .recv (.YD 3), .recv (.ZD 3), .send (.YDG 0), .recv (.YD 4), .recv (.ZD 4), .send (.YDG 1),
   .recv (.YD 5), .recv (.ZD 5), .send (.YDG 2), .recv (.YD 6), .send (.ZDG 0), .recv (.ZD 6),
   .recv (.YD 7), .send (.ZDG 1), .recv (.ZD 7)]
/-- what is still to arrive; -/
def opsLast : List Op :=
  (List.finRange 3).map (fun k => .recv (.XD k)) ++ (List.finRange 3).map (fun k => .recv (.YDG k)) ++
    (List.finRange 2).map fun k => .recv (.ZDG k)
/-- the stores and the transfers out awaited. -/
def opsSent : List Op :=
  [.stW 4, .stW 5, .stW 6, .stW 7] ++ (List.finRange 8).map (fun k => .sent (.X k)) ++ (List.finRange 3).map (fun k => .sent (.XD k)) ++
    (List.finRange 8).flatMap (fun k => [.sent (.YD k), .sent (.ZD k)]) ++ (List.finRange 3).map (fun k => .sent (.YDG k)) ++
    (List.finRange 2).map fun k => .sent (.ZDG k)

/-- Everything after the barrier. -/
def opsMain : List Op := opsX ++ opsLocal ++ opsPass ++ opsDiag ++ opsLast ++ opsSent
/-- The whole program after the device number is read. -/
def ops : List Op := [.sig 0, .sig 1, .sig 2, .bar] ++ opsMain

set_option maxRecDepth 100000 in
/-- The printed body, at the launch's buffers, is the list of operations. -/
theorem body_eq (t : Fin cfg0.N) : bodyAt0 (F := F) t = .op .deviceId fun c => prog c ops := by
  rfl

end Cert.GatherIdeal
-- ==== Proof.Geo.lean ====
/-
# `Geo`: which rows each transfer moves, and what the output holds at the end

The chunk of 256 rows each transfer lands in, that the chunks and the eight slabs of a device's own half cut its output,
and the contents the output ends with: at each chunk, the argument of the device whose rows travelled there.
-/
module

public import proofs.«01_k».proof.Proof.Plan

@[expose] public section

noncomputable section

namespace Cert.GatherIdeal

open Cert.KernelIdeal Cert.KernelIdeal.Gen
open Idealize.ShloMosaic Idealize.ShloMosaic.TcCoe Idealize.SL.Sem

variable {F : FTy → Type} [FloatOps F]

/-! ## Chunks -/

/-- The chunk of its output (counted in 256 rows) where a transfer lands on `c`: in the half that is not `c`'s own, the
    quarter of the device the transfer's rows are of. -/
def ch (c : Dev nD) : T → ℕ
  | .X k => 32 * (1 - c.val / 4) + 8 * (c.val % 4) + k
  | .XD k => 32 * (1 - c.val / 4) + 8 * (3 - c.val % 4) + k
  | .YD k => 32 * (1 - c.val / 4) + 8 * ((nb 1 c).val % 4) + k
  | .ZD k => 32 * (1 - c.val / 4) + 8 * ((nb 2 c).val % 4) + k
  | .YDG k => 32 * (1 - c.val / 4) + 8 * (3 - c.val % 4) + (k + 3)
  | .ZDG k => 32 * (1 - c.val / 4) + 8 * (3 - c.val % 4) + (k + 6)

/-- A transfer's landing place is its chunk. -/
theorem landOff_eq (c : Dev nD) (t : T) : landOff c t 0 = 256 * ch c t ∧ landOff c t 1 = 0 := by revert c t; decide +kernel
/-- What a device writes on its neighbour is where the neighbour will look. -/
theorem dstOff_eq (c : Dev nD) (t : T) : dstOff c t = landOff (nb t.dir c) t := by
  funext a; revert c t a; decide +kernel
theorem ch_inj (c : Dev nD) (t t' : T) : ch c t = ch c t' → t = t' := by revert c t t'; decide +kernel
theorem ch_lt (c : Dev nD) (t : T) : ch c t < 64 := by revert c t; decide +kernel
/-- No transfer lands in a device's own half, -/
theorem ch_half (c : Dev nD) (t : T) : ch c t / 32 ≠ c.val / 4 := by revert c t; decide +kernel
/-- and every chunk of the other half is landed in. -/
theorem ch_surj (c : Dev nD) : ∀ j < 64, j / 32 ≠ c.val / 4 → ∃ t, ch c t = j := by revert c; decide +kernel

/-- A slab of the device's own half starts at that half's row `1024 * i`. -/
theorem slabOff_eq (c : Dev nD) (i : Fin 8) :
    k0_off5 c (BitVec.ofNat 32 (1024 * i.val)) 0 = 8192 * (c.val / 4) + 1024 * i.val ∧ k0_off5 c (BitVec.ofNat 32 (1024 * i.val)) 1 = 0 := by
  revert c i; decide +kernel

theorem oAt_congr {off off' : Fin 2 → ℕ} (e : off = off') (h h') : oAt off h = oAt off' h' := by subst e; rfl

theorem dstM_eq (c : Dev nD) (t : T) : dstM c t = landM (nb t.dir c) t := oAt_congr (dstOff_eq c t) _ _

/-! ## Membership in the pieces -/

theorem mem_oAt (off : Fin 2 → ℕ) (h) (h1 : off 1 = 0) (i : S16384x1024.Idx) :
    i ∈ (oAt off h).view.set ↔ off 0 ≤ (i 0).val ∧ (i 0).val < off 0 + 256 := by
  rw [show (oAt off h).view.set = (Rect.unit (s := S16384x1024) off S256x1024.size h).set from View.set_slice_whole _ _]
  refine Rect.mem_set_unit.trans ?_
  rw [Fin.forall_fin_two, h1]
  have hi : (i 1).val < 1024 := (i 1).isLt
  exact ⟨fun H => H.1, fun H => ⟨H, Nat.zero_le _, by show _ < 0 + 1024; omega⟩⟩

theorem mem_xAt (off : Fin 2 → ℕ) (h) (h1 : off 1 = 0) (i : S8192x1024.Idx) :
    i ∈ (xAt off h).view.set ↔ off 0 ≤ (i 0).val ∧ (i 0).val < off 0 + 256 := by
  rw [show (xAt off h).view.set = (Rect.unit (s := S8192x1024) off S256x1024.size h).set from View.set_slice_whole _ _]
  refine Rect.mem_set_unit.trans ?_
  rw [Fin.forall_fin_two, h1]
  have hi : (i 1).val < 1024 := (i 1).isLt
  exact ⟨fun H => H.1, fun H => ⟨H, Nat.zero_le _, by show _ < 0 + 1024; omega⟩⟩

/-- A transfer's landing place holds the indices of its chunk. -/
theorem mem_land (c : Dev nD) (t : T) (i : S16384x1024.Idx) : i ∈ (landM c t).view.set ↔ (i 0).val / 256 = ch c t := by
  rw [mem_oAt _ _ (landOff_eq c t).2, (landOff_eq c t).1]; omega

theorem mem_oSlab (c : Dev nD) (s : Fin 8) (i : S16384x1024.Idx) :
    i ∈ (oSlab c s).view.set ↔ (i 0).val / 1024 = 8 * (c.val / 4) + s.val := by
  rw [show (oSlab c s).view.set = (Rect.unit (s := S16384x1024) (k0_off5 c (BitVec.ofNat 32 (1024 * s.val))) S1024x1024.size (k0_off5_inb c s)).set from View.set_slice_whole _ _]
  refine Rect.mem_set_unit.trans ?_
  rw [Fin.forall_fin_two, (slabOff_eq c s).1, (slabOff_eq c s).2]
  have hi : (i 1).val < 1024 := (i 1).isLt
  show (_ ∧ _ < _ + 1024) ∧ (_ ∧ _ < 0 + 1024) ↔ _
  omega

theorem mem_xSlab (s : Fin 8) (i : S8192x1024.Idx) : i ∈ (xSlab s).view.set ↔ (i 0).val / 1024 = s.val := by
  rw [show (xSlab s).view.set = (Rect.unit (s := S8192x1024) ![1024 * s.val, 0] S1024x1024.size (xSlab_inb s)).set from View.set_slice_whole _ _]
  refine Rect.mem_set_unit.trans ?_
  rw [Fin.forall_fin_two]
  have hi : (i 1).val < 1024 := (i 1).isLt
  show (1024 * s.val ≤ _ ∧ _ < 1024 * s.val + 1024) ∧ (0 ≤ _ ∧ _ < 0 + 1024) ↔ _
  omega

theorem mem_slot (s : Fin 4) (i : S4x1024x1024.Idx) : i ∈ (slot s).view.set ↔ (i 0).val = s.val := by
  rw [show (slot s).view.set = (Rect.unit (s := S4x1024x1024) ![s.val, 0, 0] S1x1024x1024.size (slot_inb s)).set from
    (View.set_reshape _ _).trans (View.set_slice_whole _ _)]
  refine Rect.mem_set_unit.trans ?_
  have h1 : (i 1).val < 1024 := (i 1).isLt
  have h2 : (i 2).val < 1024 := (i 2).isLt
  constructor
  · intro H
    have := H 0
    change s.val ≤ _ ∧ _ < s.val + 1 at this
    omega
  · intro H a
    match a with
    | 0 => show s.val ≤ _ ∧ _ < s.val + 1; omega
    | 1 => show 0 ≤ _ ∧ _ < 0 + 1024; omega
    | 2 => show 0 ≤ _ ∧ _ < 0 + 1024; omega

/-! ## Where each chunk of the output comes from -/

/-- The device whose argument a chunk of `c`'s output is rows of: `c` itself for its own half; for the other half, the
    quarter of `c`'s own bits from its x-neighbour, its y- and z-neighbours' quarters from theirs, and the last quarter
    from `c`'s x-neighbour (three chunks) or from that of the device across the square. -/
def origin (c : Dev nD) (j : ℕ) : Dev nD :=
  if j / 32 = c.val / 4 then c
  else if j / 8 % 4 = (nb 1 c).val % 4 then nb 0 (nb 1 c)
  else if j / 8 % 4 = (nb 2 c).val % 4 then nb 0 (nb 2 c)
  else if j / 8 % 4 = 3 - c.val % 4 ∧ 3 ≤ j % 8 then nb 0 (nb 1 (nb 2 c))
  else nb 0 c

/-- A chunk's origin has the chunk in its own half. -/
theorem origin_half (c : Dev nD) : ∀ j < 64, (origin c j).val / 4 = j / 32 := by revert c; decide +kernel

/-- The index of the argument at a row and a column. -/
def xIdx (r : ℕ) (h : r < 8192) (k : Fin 1024) : S8192x1024.Idx := fun
  | 0 => ⟨r, h⟩
  | 1 => k

variable (m : (ℓ : Loc nD τ sig) → Buf (Elt F) ℓ)

/-- A device's argument at launch. -/
abbrev arg (c : Dev nD) : Buf (Elt F) ((c : Thread nD τ).loc main_arg0) := m ((c : Thread nD τ).loc main_arg0)

/-- What `c`'s output holds at the end. -/
def fin (c : Dev nD) : Buf (Elt F) ((c : Thread nD τ).loc main_v1) := fun (i : S16384x1024.Idx) =>
  arg m (origin c ((i 0).val / 256)) (xIdx ((i 0).val % 8192) (Nat.mod_lt _ (by decide)) (i 1))

/-- `fin` at an index, by its origin and row. -/
theorem fin_apply (c o : Dev nD) (i : S16384x1024.Idx) (j : S8192x1024.Idx) (ho : origin c ((i 0).val / 256) = o)
    (h0 : (i 0).val % 8192 = (j 0).val) (h1 : i 1 = j 1) : fin m c i = arg m o j := by
  subst ho
  show arg m _ _ = arg m _ _
  congr 1
  funext a
  match a with
  | 0 => exact Fin.ext h0
  | 1 => exact h1

omit [FloatOps F] in
/-- Rows of one memref written where another memref's rows were read: at each place, what the source held. -/
theorem write_read {sp sp' : Space} {s : Shape} {dst : Memref sig .tc sp' s .f32} {src : Memref sig .tc sp s .f32}
    (fd : dst.view.ty.Contents (Elt F)) (fs : src.view.ty.Contents (Elt F)) (g : dst.view.ty.Contents (Elt F))
    (h : ∀ x, dst.view.read (Elt F) g x = src.view.read (Elt F) fs x) :
    ∀ i ∈ dst.view.set, dst.view.write (Elt F) fd (src.view.read (Elt F) fs) Finset.univ i = g i := by
  intro i hi
  obtain ⟨x, -, rfl⟩ := Finset.mem_map.mp hi
  rw [View.write_emb_of_mem _ _ (Finset.mem_univ x), ← h, View.read_apply, cast_cast, cast_eq]

/-- The chunks that go along x, their source rows in the argument. -/
theorem src_X (c : Dev nD) (k : Fin 8) (r : Fin 256) :
    origin (nb 0 c) ((landOff (nb 0 c) (.X k) 0 + r.val) / 256) = c
      ∧ (landOff (nb 0 c) (.X k) 0 + r.val) % 8192 = k0_off2 c (BitVec.ofNat 32 (256 * k.val)) 0 + r.val := by
  have h : origin (nb 0 c) (ch (nb 0 c) (.X k)) = c
      ∧ (256 * ch (nb 0 c) (.X k)) % 8192 = k0_off2 c (BitVec.ofNat 32 (256 * k.val)) 0 := by
    revert c k; decide +kernel
  rw [(landOff_eq _ _).1]
  have hr : (256 * ch (nb 0 c) (.X k) + r.val) / 256 = ch (nb 0 c) (.X k) := by omega
  rw [hr]
  exact ⟨h.1, by omega⟩

theorem src_XD (c : Dev nD) (k : Fin 3) (r : Fin 256) :
    origin (nb 0 c) ((landOff (nb 0 c) (.XD k) 0 + r.val) / 256) = c
      ∧ (landOff (nb 0 c) (.XD k) 0 + r.val) % 8192 = k0_off4 c (BitVec.ofNat 32 (256 * k.val)) 0 + r.val := by
  have h : origin (nb 0 c) (ch (nb 0 c) (.XD k)) = c
      ∧ (256 * ch (nb 0 c) (.XD k)) % 8192 = k0_off4 c (BitVec.ofNat 32 (256 * k.val)) 0 := by
    revert c k; decide +kernel
  rw [(landOff_eq _ _).1]
  have hr : (256 * ch (nb 0 c) (.XD k) + r.val) / 256 = ch (nb 0 c) (.XD k) := by omega
  rw [hr]
  exact ⟨h.1, by omega⟩

theorem xOff_col (c : Dev nD) :
    (∀ k : Fin 8, k0_off2 c (BitVec.ofNat 32 (256 * k.val)) 1 = 0) ∧ ∀ k : Fin 3, k0_off4 c (BitVec.ofNat 32 (256 * k.val)) 1 = 0 := by
  revert c; decide +kernel

/-- A transfer along x fills its chunk with the final contents: `off` the source rows, `t` the transfer. -/
theorem read_x (c : Dev nD) (t : T) (off : Fin 2 → ℕ) (h) (h1 : off 1 = 0)
    (H : ∀ r : Fin 256, origin (nb 0 c) ((landOff (nb 0 c) t 0 + r.val) / 256) = c ∧ (landOff (nb 0 c) t 0 + r.val) % 8192 = off 0 + r.val)
    (x : S256x1024.Idx) : (landM (nb 0 c) t).view.read (Elt F) (fin m (nb 0 c)) x = (xAt off h).view.read (Elt F) (arg m c) x := by
  rw [View.read_apply, View.read_apply]
  congr 1
  refine fin_apply m (nb 0 c) c _ _ ?_ ?_ ?_
  · show origin _ ((landOff (nb 0 c) t 0 + 1 * (x 0).val) / 256) = c
    rw [Nat.one_mul]; exact (H (x 0)).1
  · show (landOff (nb 0 c) t 0 + 1 * (x 0).val) % 8192 = off 0 + 1 * (x 0).val
    rw [Nat.one_mul]; exact (H (x 0)).2
  · refine Fin.ext ?_
    show landOff (nb 0 c) t 1 + 1 * (x 1).val = off 1 + 1 * (x 1).val
    rw [(landOff_eq _ _).2, h1]

/-- Passed on: a transfer along y or z leaves the neighbour's chunk at the sender's own final contents. -/
theorem origin_pass (c : Dev nD) (t : T) : t.dir ≠ 0 → origin (nb t.dir c) (ch (nb t.dir c) t) = origin c (ch (nb t.dir c) t) := by
  revert c t; decide +kernel

theorem read_o (c : Dev nD) (t : T) (ht : t.dir ≠ 0) (x : S256x1024.Idx) :
    (landM (nb t.dir c) t).view.read (Elt F) (fin m (nb t.dir c)) x = (landM (nb t.dir c) t).view.read (Elt F) (fin m c) x := by
  rw [View.read_apply, View.read_apply]
  congr 1
  have e : (landOff (nb t.dir c) t 0 + 1 * (x 0).val) / 256 = ch (nb t.dir c) t := by
    have : (x 0).val < 256 := (x 0).isLt
    rw [(landOff_eq _ _).1]; omega
  refine fin_apply m _ _ _ _ ?_ rfl rfl
  show origin _ ((landOff (nb t.dir c) t 0 + 1 * (x 0).val) / 256) = origin c ((landOff (nb t.dir c) t 0 + 1 * (x 0).val) / 256)
  rw [e]; exact origin_pass c t ht

/-- The local copy of a slab leaves the own half at the final contents. -/
theorem read_slab (c : Dev nD) (s : Fin 8) (x : S1024x1024.Idx) :
    (oSlab c s).view.read (Elt F) (fin m c) x = (xSlab s).view.read (Elt F) (arg m c) x := by
  have hx : (x 0).val < 1024 := (x 0).isLt
  have hc : c.val < 8 := c.isLt
  rw [View.read_apply, View.read_apply]
  congr 1
  refine fin_apply m c c _ _ ?_ ?_ ?_
  · show origin c ((k0_off5 c (BitVec.ofNat 32 (1024 * s.val)) 0 + 1 * (x 0).val) / 256) = c
    rw [(slabOff_eq c s).1]
    unfold origin
    rw [if_pos (by omega)]
  · show (k0_off5 c (BitVec.ofNat 32 (1024 * s.val)) 0 + 1 * (x 0).val) % 8192 = 1024 * s.val + 1 * (x 0).val
    rw [(slabOff_eq c s).1]; omega
  · refine Fin.ext ?_
    show k0_off5 c (BitVec.ofNat 32 (1024 * s.val)) 1 + 1 * (x 1).val = 0 + 1 * (x 1).val
    rw [(slabOff_eq c s).2]

end Cert.GatherIdeal
-- ==== Proof.Sched.lean ====
/-
# `Sched`: the protocol

Each device has one barrier cell, and one send and one receive cell per transfer, all of one round. A device's barrier
cell has three duties, one per direction, each paid by the neighbour of that direction, who hands over the places in
its own output that the device will write. A send cell hands back what the transfer read; a receive cell hands over
the landing place at its final contents. The levels order the waits: the barrier, then what comes along x, then what
is passed on once, then what is passed on twice.
-/
module

public import proofs.«01_k».proof.Proof.Geo
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.GatherIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline library's copy, the rounds of this protocol (duties: the three directions), the local transfers'. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
abbrev EC : UEmb Counters (MT nD τ sig Unit (Elt F) ℕ UU ℕ) := countersEmb

instance ER_landsIn : (ER (F := F)).LandsIn (upEmb : UEmb _ 𝕄) := by unfold ER; infer_instance

variable (m : (ℓ : Loc nD τ sig) → Buf (Elt F) ℓ)

/-! ## The cells -/

/-- A device's cells: the barrier's, and per transfer the send cell and the receive cell. -/
abbrev CK : Type := Unit ⊕ (T ⊕ T)

/-- The semaphore of a cell. -/
def csem : CK → SemLoc sig
  | .inl _ => .reg barS
  | .inr (.inl t) => .dma (sS t)
  | .inr (.inr t) => .dma (rS t)

theorem csem_inj : Function.Injective csem := by
  have h : ∀ k k' : CK, csem k = csem k' → k = k' := by decide +kernel
  exact fun k k' => h k k'

/-- The cell a semaphore is of, if of any. -/
def dec (s : SemLoc sig) : Option CK := by
  classical exact if h : ∃ k, csem k = s then some h.choose else none

theorem dec_csem (k : CK) : dec (csem k) = some k := by
  unfold dec
  have h : ∃ k', csem k' = csem k := ⟨k, rfl⟩
  rw [dif_pos h]
  exact congrArg some (csem_inj h.choose_spec)

theorem dec_bar : dec (.reg barS) = some (.inl ()) := dec_csem (.inl ())
theorem dec_snd (t : T) : dec (.dma (sS t)) = some (.inr (.inl t)) := dec_csem (.inr (.inl t))
theorem dec_rcv (t : T) : dec (.dma (rS t)) = some (.inr (.inr t)) := dec_csem (.inr (.inr t))

abbrev kcell (ck : Dev nD × CK) : GSem nD τ sig := ((ck.1 : Thread nD τ), csem ck.2)
abbrev barCell (c : Dev nD) : GSem nD τ sig := ((c : Thread nD τ), .reg barS)
abbrev sndCell (c : Dev nD) (t : T) : GSem nD τ sig := ((c : Thread nD τ), .dma (sS t))
abbrev rcvCell (c : Dev nD) (t : T) : GSem nD τ sig := ((c : Thread nD τ), .dma (rS t))

theorem kcell_inj : Function.Injective kcell := by
  rintro ⟨c, k⟩ ⟨c', k'⟩ h
  have h1 : c = c' := congrArg (fun g : GSem nD τ sig => g.1.1) h
  have h2 : csem k = csem k' := congrArg Prod.snd h
  rw [h1, csem_inj h2]

/-- What a transfer of one chunk is worth. -/
def N : ℕ := (oAt ![0, 0] (by decide +kernel)).view.dmaCredit
theorem N_pos : 0 < N := View.dmaCredit_pos _ (by decide +kernel)
theorem credit_o (off : Fin 2 → ℕ) (h) : (oAt off h).view.dmaCredit = N := rfl
theorem credit_x (off : Fin 2 → ℕ) (h) : (xAt off h).view.dmaCredit = N := rfl
theorem credit_src (c : Dev nD) (t : T) : (srcM c t).view.dmaCredit = N := by cases t <;> first | exact credit_x _ _ | exact credit_o _ _

/-! ## The pieces -/

/-- The share of its rows a transfer reads at: half of the argument (the other half is the local copy's); of a landed
    chunk, the left half for what goes along y first and for what is passed on twice, the right half for what goes along z first. -/
def srcQ : T → PosShare TreeShare
  | .ZD _ => fullShare.right
  | _ => fullShare.left

/-- What a transfer reads: the argument, or the output's final contents. -/
def srcC (c : Dev nD) : (t : T) → Buf (Elt F) ((srcM c t).view.loc (c : Thread nD τ))
  | .X _ => arg m c
  | .XD _ => arg m c
  | .YD _ => fin m c
  | .ZD _ => fin m c
  | .YDG _ => fin m c
  | .ZDG _ => fin m c

/-- The rows a transfer reads, held. -/
def srcPts (c : Dev nD) (t : T) : sProp 𝕄 :=
  (srcM c t).view.loc (c : Thread nD τ) ↦[(srcM c t).view.set]{srcQ t} srcC m c t

/-- A landing place, held at some contents. -/
def landPts (c : Dev nD) (t : T) (q : PosShare TreeShare) (f : Buf (Elt F) ((c : Thread nD τ).loc main_v1)) : sProp 𝕄 :=
  (landM c t).view.loc (c : Thread nD τ) ↦[(landM c t).view.set]{q} f

/-- The landing place on the neighbour that a transfer from `c` will write, at whatever it holds. -/
def roomPts (c : Dev nD) (t : T) : sProp 𝕄 := iprop(∃ f, landPts (F := F) (nb t.dir c) t fullShare f)

/-- What the neighbour of direction `d` hands `c` at the barrier: the landing places there of `c`'s transfers that way. -/
def barPay (c : Dev nD) (d : Fin 3) : sProp 𝕄 :=
  bigSep Finset.univ fun t : T => if t.dir = d then roomPts (F := F) c t else iprop(emp)

instance srcPts_storable (c : Dev nD) (t : T) : BI.Storable (upEmb : UEmb _ 𝕄) (srcPts m c t) := by unfold srcPts; infer_instance
instance landPts_storable (c : Dev nD) (t : T) (q f) : BI.Storable (upEmb : UEmb _ 𝕄) (landPts (F := F) c t q f) := by
  unfold landPts; infer_instance
instance roomPts_storable (c : Dev nD) (t : T) : BI.Storable (upEmb : UEmb _ 𝕄) (roomPts (F := F) c t) := by unfold roomPts; infer_instance
instance barPay_storable (c : Dev nD) (d : Fin 3) : BI.Storable (upEmb : UEmb _ 𝕄) (barPay (F := F) c d) := by
  unfold barPay
  have : ∀ t : T, BI.Storable (upEmb : UEmb _ 𝕄) (if t.dir = d then roomPts (F := F) c t else iprop(emp)) := fun t => by
    split <;> infer_instance
  infer_instance

/-! ## The schedule -/

/-- One round: a barrier cell has a duty of one unit per direction, a send or receive cell one duty of a chunk's credit. -/
def Rd : Rounds.Schedule (GSem nD τ sig) (Fin 3) 𝕄 where
  duties g r := if r = 0 then (match dec g.2 with | none => ∅ | some (.inl _) => Finset.univ | some (.inr _) => {0}) else ∅
  unitless _ := False
  amount g _ _ := match dec g.2 with | some (.inr _) => N | _ => 1
  payload g _ d := match dec g.2 with
    | none => iprop(emp)
    | some (.inl _) => barPay g.1.1 d
    | some (.inr (.inl t)) => srcPts m g.1.1 t
    | some (.inr (.inr t)) => landPts g.1.1 t fullShare (fin m g.1.1)
  amount_pos g _ _ _ := by
    split
    · exact N_pos
    · exact Nat.one_pos

instance Rd_payload_storable (g : GSem nD τ sig) (r : ℕ) (d : Fin 3) : BI.Storable (upEmb : UEmb _ 𝕄) ((Rd m).payload g r d) := by
  dsimp only [Rd]
  split <;> infer_instance

theorem duties_bar (c : Dev nD) : (Rd m).duties (barCell c) 0 = Finset.univ := by dsimp only [Rd]; rw [dec_bar]; rfl
theorem duties_snd (c : Dev nD) (t : T) : (Rd m).duties (sndCell c t) 0 = {0} := by dsimp only [Rd]; rw [dec_snd]; rfl
theorem duties_rcv (c : Dev nD) (t : T) : (Rd m).duties (rcvCell c t) 0 = {0} := by dsimp only [Rd]; rw [dec_rcv]; rfl
theorem duties_later (g : GSem nD τ sig) : ∀ r, 1 ≤ r → (Rd m).duties g r = ∅ := fun r hr => by
  dsimp only [Rd]; rw [if_neg (by omega)]
theorem amount_bar (c : Dev nD) (d : Fin 3) : (Rd m).amount (barCell c) 0 d = 1 := by dsimp only [Rd]; rw [dec_bar]
theorem amount_snd (c : Dev nD) (t : T) (d : Fin 3) : (Rd m).amount (sndCell c t) 0 d = N := by dsimp only [Rd]; rw [dec_snd]
theorem amount_rcv (c : Dev nD) (t : T) (d : Fin 3) : (Rd m).amount (rcvCell c t) 0 d = N := by dsimp only [Rd]; rw [dec_rcv]
theorem expect_bar (c : Dev nD) : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_snd (c : Dev nD) (t : T) : (Rd m).expect (sndCell c t) 0 = N := by
  unfold Schedule.expect Schedule.amountOf; rw [duties_snd, Finset.sum_singleton, amount_snd]
theorem expect_rcv (c : Dev nD) (t : T) : (Rd m).expect (rcvCell c t) 0 = N := by
  unfold Schedule.expect Schedule.amountOf; rw [duties_rcv, Finset.sum_singleton, amount_rcv]
theorem payload_bar (c : Dev nD) (d : Fin 3) : (Rd m).payload (barCell c) 0 d = barPay c d := by dsimp only [Rd]; rw [dec_bar]
theorem payload_snd (c : Dev nD) (t : T) (d : Fin 3) : (Rd m).payload (sndCell c t) 0 d = srcPts m c t := by dsimp only [Rd]; rw [dec_snd]
theorem payload_rcv (c : Dev nD) (t : T) (d : Fin 3) : (Rd m).payload (rcvCell c t) 0 d = landPts c t fullShare (fin m c) := by
  dsimp only [Rd]; rw [dec_rcv]

/-- The barrier's whole round: the landing places on the neighbours of every transfer. -/
theorem rest_bar (c : Dev nD) : bigSep ((Rd m).duties (barCell c) 0 \ ∅) (fun d => (Rd m).payload (barCell c) 0 d)
    = bigSep Finset.univ fun t : T => roomPts (F := F) c t := by
  rw [Finset.sdiff_empty, duties_bar, bigSep_congr fun d _ => payload_bar m c d]
  unfold barPay
  rw [bigSep_univ_comm]
  refine bigSep_congr fun t _ => ?_
  rw [bigSep_univ_eq_bigSepL [0, 1, 2] (by decide) (by decide)]
  rw [bigSepL_cons_cons, bigSepL_cons_cons, bigSepL_singleton]
  have e1 : ∀ P : sProp 𝕄, BI.sep iprop(emp) P = P := fun P => BI.Entails.antisymm BI.emp_sep.1 BI.emp_sep.2
  have e2 : ∀ P : sProp 𝕄, BI.sep P iprop(emp) = P := fun P => BI.Entails.antisymm BI.sep_emp.1 BI.sep_emp.2
  cases t <;> simp [T.dir, e1, e2]

theorem rest_snd (c : Dev nD) (t : T) : bigSep ((Rd m).duties (sndCell c t) 0 \ ∅) (fun d => (Rd m).payload (sndCell c t) 0 d) = srcPts m c t := by
  rw [Finset.sdiff_empty, duties_snd, bigSep_singleton, payload_snd]
theorem rest_rcv (c : Dev nD) (t : T) : bigSep ((Rd m).duties (rcvCell c t) 0 \ ∅) (fun d => (Rd m).payload (rcvCell c t) 0 d)
    = landPts c t fullShare (fin m c) := by
  rw [Finset.sdiff_empty, duties_rcv, bigSep_singleton, payload_rcv]

/-! ## The levels -/

/-- The level of a transfer's receive cell. -/
def lvT : T → ℕ
  | .X _ => 2 | .XD _ => 2 | .YD _ => 3 | .ZD _ => 3 | .YDG _ => 4 | .ZDG _ => 4

def L (g : GSem nD τ sig) : Finset Unit := if g.1.2 = .tc then {()} else ∅
/-- Barrier cells at 1, receive cells at their transfer's level, everything else at 0. -/
def lv (g : GSem nD τ sig) (_ : Unit) : ℕ := match dec g.2 with | some (.inl _) => 1 | some (.inr (.inr t)) => lvT t | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [dec_bar]
theorem lv_rcv (c : Dev nD) (t : T) (u : Unit) : lv (rcvCell c t) u = lvT t := by dsimp only [lv]; rw [dec_rcv]
theorem lv_snd (c : Dev nD) (t : T) (u : Unit) : lv (sndCell c t) u = 0 := by dsimp only [lv]; rw [dec_snd]
theorem lv_of_not (c : Dev nD) (sm : SemLoc sig) (h : ∀ k, csem k ≠ sm) (u : Unit) : lv ((c : Thread nD τ), sm) u = 0 := by
  have hd : dec sm = none := by
    unfold dec; rw [dif_neg]; rintro ⟨k, hk⟩; exact h k hk
  dsimp only [lv]; rw [hd]
theorem two_le_lvT (t : T) : 2 ≤ lvT t := by cases t <;> simp [lvT]

/-- What a device owes while the transfers `u` are still to be issued: their receive cells' credit. -/
def owing (u : T → Bool) (c : Dev nD) : CellTallies nD τ sig Unit :=
  ∑ t, if u t then tallyAt (rcvCell (nb t.dir c) t) () N else 0

theorem owing_none (c : Dev nD) : owing (fun _ => false) c = 0 := Finset.sum_eq_zero fun t _ => by simp

/-- Issuing one of them discharges its credit. -/
theorem owing_peel (u : T → Bool) (c : Dev nD) (t : T) (h : u t = true) :
    owing u c = owing (Function.update u t false) c + tallyAt (rcvCell (nb t.dir c) t) () N := by
  unfold owing
  rw [← Finset.sum_erase_add _ _ (Finset.mem_univ t), if_pos h]
  congr 1
  rw [← Finset.sum_erase (s := Finset.univ) (a := t)
    (f := fun t' => if Function.update u t false t' = true then tallyAt (rcvCell (nb t'.dir c) t') () N else (0 : CellTallies nD τ sig Unit)) (by simp)]
  exact Finset.sum_congr rfl fun t' ht' => by rw [Function.update_of_ne (Finset.ne_of_mem_erase ht')]

theorem owing_pos {u : T → Bool} {c : Dev nD} {g : GSem nD τ sig} {x : Unit} (h : 0 < owing u c g x) :
    ∃ t, u t = true ∧ g = rcvCell (nb t.dir c) t := by
  by_contra hn
  have hz : owing u c g x = 0 := by
    unfold owing
    rw [Finset.sum_apply, Finsupp.finset_sum_apply]
    refine Finset.sum_eq_zero fun t _ => ?_
    by_cases hu : u t = true
    · rw [if_pos hu, tallyAt_apply, if_neg fun h' => hn ⟨t, hu, h'.1⟩]
    · rw [if_neg hu]; rfl
  omega

/-- A device may wait on a cell below every receive cell it still owes. -/
theorem mayWait (u : T → Bool) (c : Dev nD) (sm : SemLoc sig) (w : ℕ) (hw : lv ((c : Thread nD τ), sm) () = w) (h : ∀ t, u t = true → w < lvT t) :
    (levAts L lv : sProp 𝕄) ⊢ MayWait (c : Thread nD τ) sm () (owing u c) :=
  MayOwe.of_cut (L := L) (lev := lv) w (fun p hp => by rw [Finset.mem_singleton.mp hp, L_tc]; exact Finset.mem_singleton_self _)
    (fun g x hg => by obtain ⟨t, _, rfl⟩ := owing_pos hg; exact Finset.mem_singleton_self _)
    (fun p hp => by rw [Finset.mem_singleton.mp hp]; exact hw.le)
    (fun g x hg => by obtain ⟨t, hu, rfl⟩ := owing_pos hg; rw [lv_rcv]; exact h t hu)

end Cert.GatherIdeal
-- ==== Proof.State.lean ====
/-
# `State`: what a device holds between two operations, as a finite state

After the barrier each transfer, each piece of the output, each slab of the local copy and each scratch slot is in one
of a few states. Here the states, when an operation may run and what it changes, and the run of the whole program
through them: decided once, for every device, since the states do not name the device.
-/
module

public import proofs.«01_k».proof.Proof.Sched

@[expose] public section

namespace Cert.GatherIdeal

open Cert.KernelIdeal Cert.KernelIdeal.Gen
open Idealize.ShloMosaic

/-- The pieces transfers read: rows of the argument (the transfers along x), and halves (left: `false`) of the chunks landed. -/
abbrev P : Type := T ⊕ (T × Bool)

/-- The piece a transfer reads. -/
def srcOf : T → P
  | .X k => .inl (.X k)
  | .XD k => .inl (.XD k)
  | .YD k => .inr (.X k, false)
  | .ZD k => .inr (.X k, true)
  | .YDG k => .inr (.ZD ⟨k.val + 3, by omega⟩, false)
  | .ZDG k => .inr (.YD ⟨k.val + 6, by omega⟩, false)

/-- `snd`: 0 to be issued, 1 issued, 2 awaited; `rcv`: awaited; `pc`: held; `slab`: 0 to be loaded, 1 loading, 2 in its
    slot, 3 being stored, 4 stored; `slt`: the scratch slot held; `ldF`, `stF`: its load and store semaphores held. -/
structure State where
  snd : T → Fin 3
  rcv : T → Bool
  pc : P → Bool
  slab : Fin 8 → Fin 5
  slt : Fin 4 → Bool
  ldF : Fin 4 → Bool
  stF : Fin 4 → Bool

/-- The transfers still to be issued. -/
def State.todo (σ : State) (t : T) : Bool := decide (σ.snd t = 0)

/-- When an operation may run. -/
def pre (σ : State) : Op → Bool
  | .sig _ => false
  | .bar => false
  | .send t => decide (σ.snd t = 0) && σ.pc (srcOf t)
  | .sent t => decide (σ.snd t = 1) && !σ.pc (srcOf t)
  | .recv t => !σ.rcv t && !σ.pc (.inr (t, false)) && !σ.pc (.inr (t, true)) && decide (∀ u, σ.todo u = true → lvT t < lvT u)
  | .ld i => decide (σ.slab i = 0) && σ.slt (slotOf i) && σ.ldF (slotOf i)
  | .ldW i => decide (σ.slab i = 1) && !σ.ldF (slotOf i)
  | .st i => decide (σ.slab i = 2) && σ.stF (slotOf i)
  | .stW i => decide (σ.slab i = 3) && !σ.stF (slotOf i) && !σ.slt (slotOf i)

/-- What it changes. -/
def post (σ : State) : Op → State
  | .sig _ => σ
  | .bar => σ
  | .send t => { σ with snd := Function.update σ.snd t 1, pc := Function.update σ.pc (srcOf t) false }
  | .sent t => { σ with snd := Function.update σ.snd t 2, pc := Function.update σ.pc (srcOf t) true }
  | .recv t => { σ with rcv := Function.update σ.rcv t true, pc := Function.update (Function.update σ.pc (.inr (t, false)) true) (.inr (t, true)) true }
  | .ld i => { σ with slab := Function.update σ.slab i 1, slt := Function.update σ.slt (slotOf i) false, ldF := Function.update σ.ldF (slotOf i) false }
  | .ldW i => { σ with slab := Function.update σ.slab i 2, ldF := Function.update σ.ldF (slotOf i) true }
  | .st i => { σ with slab := Function.update σ.slab i 3, stF := Function.update σ.stF (slotOf i) false }
  | .stW i => { σ with slab := Function.update σ.slab i 4, stF := Function.update σ.stF (slotOf i) true, slt := Function.update σ.slt (slotOf i) true }

/-- A list of operations runs through from a state. -/
def runs : State → List Op → Bool
  | _, [] => true
  | σ, o :: l => pre σ o && runs (post σ o) l

/-- Where it ends. -/
def ends : State → List Op → State
  | σ, [] => σ
  | σ, o :: l => ends (post σ o) l

/-- After the barrier: nothing issued, the argument's rows and the scratch held. -/
def σ₀ : State where
  snd _ := 0
  rcv _ := false
  pc p := p.isLeft
  slab _ := 0
  slt _ := true
  ldF _ := true
  stF _ := true

/-- At the end: everything awaited, everything held. -/
def σ₁ : State where
  snd _ := 2
  rcv _ := true
  pc _ := true
  slab _ := 4
  slt _ := true
  ldF _ := true
  stF _ := true

theorem runs_main : runs σ₀ opsMain = true := by decide +kernel

/-- A state all of whose parts are the last one's is the last one. -/
theorem eq_σ₁ (σ : State) (h : (∀ t, σ.snd t = 2) ∧ (∀ t, σ.rcv t = true) ∧ (∀ p, σ.pc p = true) ∧ (∀ i, σ.slab i = 4)
    ∧ (∀ i, σ.slt i = true) ∧ (∀ i, σ.ldF i = true) ∧ ∀ i, σ.stF i = true) : σ = σ₁ := by
  obtain ⟨s, r, p, l, a, b, d⟩ := σ
  obtain ⟨h1, h2, h3, h4, h5, h6, h7⟩ := h
  obtain rfl : s = fun _ => 2 := funext h1
  obtain rfl : r = fun _ => true := funext h2
  obtain rfl : p = fun _ => true := funext h3
  obtain rfl : l = fun _ => 4 := funext h4
  obtain rfl : a = fun _ => true := funext h5
  obtain rfl : b = fun _ => true := funext h6
  obtain rfl : d = fun _ => true := funext h7
  rfl

theorem ends_main : ends σ₀ opsMain = σ₁ := eq_σ₁ _ (by decide +kernel)

end Cert.GatherIdeal
-- ==== Proof.Step.lean ====
/-
# `Step`: one operation

What each part of a state stands for, as held memory, semaphores, tokens and promises, and for each operation that it
takes the holdings of a state to those of the next one.
-/
module

public import proofs.«01_k».proof.Proof.State

@[expose] public section

noncomputable section

namespace Cert.GatherIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What the parts of a state stand for -/

/-- A transfer, at the sender. -/
def SndR (c : Dev nD) (t : T) : Fin 3 → sProp 𝕄
  | 0 => iprop(roomPts c t ∗ dutyTok ER (sndCell c t) 0 (0 : Fin 3) ∗ dutyTok ER (rcvCell (nb t.dir c) t) 0 (0 : Fin 3) ∗ atPos ER (sndCell c t) 0 ∅ 0)
  | 1 => iprop(cred (tallyAt (sndCell c t) () N) ∗ atPos ER (sndCell c t) 0 ∅ 0)
  | 2 => semVal (sndCell c t) 0

/-- A transfer, at the receiver. -/
def RcvR (c : Dev nD) (t : T) : Bool → sProp 𝕄
  | false => iprop(cred (tallyAt (rcvCell c t) () N) ∗ atPos ER (rcvCell c t) 0 ∅ 0)
  | true => semVal (rcvCell c t) 0

/-- A piece: the rows of the argument of a transfer along x, or half of a landed chunk. -/
def piece (c : Dev nD) : P → sProp 𝕄
  | .inl t => if t.dir = 0 then srcPts m c t else iprop(emp)
  | .inr (t, h) => landPts c t (cond h fullShare.right fullShare.left) (fin m c)

def PcR (c : Dev nD) (p : P) : Bool → sProp 𝕄
  | true => piece m c p
  | false => iprop(emp)

/-- A slab of the argument, at the other half share. -/
def xsPts (c : Dev nD) (i : Fin 8) : sProp 𝕄 := (xSlab i).view.loc (c : Thread nD τ) ↦[(xSlab i).view.set]{fullShare.right} arg m c
/-- A slab of the output's own half. -/
def osPts (c : Dev nD) (i : Fin 8) (f : Buf (Elt F) ((c : Thread nD τ).loc main_v1)) : sProp 𝕄 :=
  (oSlab c i).view.loc (c : Thread nD τ) ↦[(oSlab c i).view.set]{fullShare} f
/-- A scratch slot. -/
def slotPts (c : Dev nD) (s : Fin 4) (f : Buf (Elt F) ((c : Thread nD τ).loc cc0_scratch0)) : sProp 𝕄 :=
  (slot s).view.loc (c : Thread nD τ) ↦[(slot s).view.set]{fullShare} f
/-- A slab's scratch slot holding the slab. -/
def loaded (c : Dev nD) (i : Fin 8) : sProp 𝕄 :=
  iprop(∃ f, ⌜∀ x, (slot (slotOf i)).view.read (Elt F) f x = (xSlab i).view.read (Elt F) (arg m c) x⌝ ∗ slotPts c (slotOf i) f)

def SlabR (c : Dev nD) (i : Fin 8) : Fin 5 → sProp 𝕄
  | 0 => iprop(xsPts m c i ∗ ∃ f, osPts c i f)
  | 1 => iprop(Transfers.Flight EC (c : Thread nD τ) (.dma (ldS (slotOf i))) () (slot (slotOf i)).view.dmaCredit iprop(loaded m c i ∗ xsPts m c i)
      ∗ ∃ f, osPts c i f)
  | 2 => iprop(loaded m c i ∗ xsPts m c i ∗ ∃ f, osPts c i f)
  | 3 => iprop(Transfers.Flight EC (c : Thread nD τ) (.dma (stS (slotOf i))) () (oSlab c i).view.dmaCredit
      iprop(osPts c i (fin m c) ∗ ∃ f, slotPts c (slotOf i) f) ∗ xsPts m c i)
  | 4 => iprop(osPts c i (fin m c) ∗ xsPts m c i)

def SltR (c : Dev nD) (s : Fin 4) : Bool → sProp 𝕄
  | true => iprop(∃ f, slotPts c s f)
  | false => iprop(emp)
def LdR (c : Dev nD) (s : Fin 4) : Bool → sProp 𝕄
  | true => semVal ((c : Thread nD τ), .dma (ldS s)) 0
  | false => iprop(emp)
def StR (c : Dev nD) (s : Fin 4) : Bool → sProp 𝕄
  | true => semVal ((c : Thread nD τ), .dma (stS s)) 0
  | false => iprop(emp)

/-- All a device holds in a state. -/
def St (c : Dev nD) (σ : State) : sProp 𝕄 :=
  iprop(bigSep Finset.univ (fun t => SndR c t (σ.snd t)) ∗ bigSep Finset.univ (fun t => RcvR c t (σ.rcv t))
    ∗ bigSep Finset.univ (fun p => PcR m c p (σ.pc p)) ∗ bigSep Finset.univ (fun i => SlabR m c i (σ.slab i))
    ∗ bigSep Finset.univ (fun s => SltR c s (σ.slt s)) ∗ bigSep Finset.univ (fun s => LdR c s (σ.ldF s))
    ∗ bigSep Finset.univ (fun s => StR c s (σ.stF s)) ∗ ∃ W, owes (c : Thread nD τ) (owing σ.todo c) W)

/-- What every device knows throughout: every cell's invariant, that every cell is at its round, the levels. -/
def Ctx (K : Dev nD × CK → ℕ) : sProp 𝕄 :=
  iprop(bigSep Finset.univ (fun ck => cellInv ER (Rd m) (K ck) (kcell ck)) ∗ bigSep Finset.univ (fun ck => reached ER (kcell ck) 0) ∗ levAts L lv)

instance Ctx_persistent (K : Dev nD × CK → ℕ) : BI.Persistent (Ctx m K) := by unfold Ctx; infer_instance

omit [FloatOps F] in
/-- One member of a family. -/
theorem member {J : Type} [Fintype J] [DecidableEq J] (Φ : J → sProp 𝕄) (i : J) : bigSep Finset.univ Φ ⊢ Φ i := bigSep_elim (Finset.mem_univ i)
omit [FloatOps F] in
/-- One member of a family, and the others. -/
theorem split_at {J : Type} [Fintype J] [DecidableEq J] (Φ : J → sProp 𝕄) (i : J) :
    bigSep Finset.univ Φ = iprop(Φ i ∗ bigSep (Finset.univ.erase i) Φ) := bigSep_univ_split i

theorem Ctx_inv (K : Dev nD × CK → ℕ) (ck : Dev nD × CK) : Ctx m K ⊢ cellInv ER (Rd m) (K ck) (kcell ck) := by
  unfold Ctx
  iintro ⟨H, -, -⟩
  iapply (member (fun ck => (cellInv ER (Rd m) (K ck) (kcell ck) : sProp 𝕄)) ck); iexact H
theorem Ctx_reached (K : Dev nD × CK → ℕ) (ck : Dev nD × CK) : Ctx m K ⊢ reached ER (kcell ck) 0 := by
  unfold Ctx
  iintro ⟨-, H, -⟩
  iapply (member (fun ck => (reached ER (kcell ck) 0 : sProp 𝕄)) ck); iexact H
theorem Ctx_bar (K : Dev nD × CK → ℕ) (c : Dev nD) : Ctx m K ⊢ cellInv ER (Rd m) (K (c, .inl ())) (barCell c) := Ctx_inv m K (c, .inl ())
theorem Ctx_snd (K : Dev nD × CK → ℕ) (c : Dev nD) (t : T) : Ctx m K ⊢ cellInv ER (Rd m) (K (c, .inr (.inl t))) (sndCell c t) :=
  Ctx_inv m K (c, .inr (.inl t))
theorem Ctx_rcv (K : Dev nD × CK → ℕ) (c : Dev nD) (t : T) : Ctx m K ⊢ cellInv ER (Rd m) (K (c, .inr (.inr t))) (rcvCell c t) :=
  Ctx_inv m K (c, .inr (.inr t))
theorem Ctx_rbar (K : Dev nD × CK → ℕ) (c : Dev nD) : Ctx m K ⊢ reached ER (barCell c) 0 := Ctx_reached m K (c, .inl ())
theorem Ctx_rsnd (K : Dev nD × CK → ℕ) (c : Dev nD) (t : T) : Ctx m K ⊢ reached ER (sndCell c t) 0 := Ctx_reached m K (c, .inr (.inl t))
theorem Ctx_rrcv (K : Dev nD × CK → ℕ) (c : Dev nD) (t : T) : Ctx m K ⊢ reached ER (rcvCell c t) 0 := Ctx_reached m K (c, .inr (.inr t))
theorem Ctx_lev (K : Dev nD × CK → ℕ) : Ctx m K ⊢ levAts L lv := by
  unfold Ctx
  iintro ⟨-, -, H⟩
  iexact H

omit [FloatOps F] in
/-- One part of a family taken out at its state, to be put back at another. -/
theorem focus {J V : Type} [Fintype J] [DecidableEq J] (Φ : J → V → sProp 𝕄) (s : J → V) (i : J) (a : V) (h : s i = a) (v : V)
    {A B : sProp 𝕄} (hA : Φ i a = A) (hB : Φ i v = B) :
    bigSep Finset.univ (fun j => Φ j (s j)) ⊢ iprop(A ∗ (B -∗ bigSep Finset.univ fun j => Φ j (Function.update s i v j))) := by
  rw [split_at (fun j => Φ j (s j)) i, split_at (fun j => Φ j (Function.update s i v j)) i, Function.update_self, h, hA, hB,
    bigSep_congr (s := Finset.univ.erase i) (Φ := fun j => Φ j (Function.update s i v j)) (Ψ := fun j => Φ j (s j))
      fun j hj => by rw [Function.update_of_ne (Finset.ne_of_mem_erase hj)]]
  iintro ⟨H, HR⟩
  isplitl [H]; · iexact H
  iintro H
  isplitl [H]; · iexact H
  iexact HR

theorem SndR_0 (c : Dev nD) (t : T) : SndR (F := F) c t 0
    = iprop(roomPts c t ∗ dutyTok ER (sndCell c t) 0 (0 : Fin 3) ∗ dutyTok ER (rcvCell (nb t.dir c) t) 0 (0 : Fin 3) ∗ atPos ER (sndCell c t) 0 ∅ 0) := rfl
theorem SndR_1 (c : Dev nD) (t : T) : SndR (F := F) c t 1 = iprop(cred (tallyAt (sndCell c t) () N) ∗ atPos ER (sndCell c t) 0 ∅ 0) := rfl
theorem SndR_2 (c : Dev nD) (t : T) : SndR (F := F) c t 2 = semVal (sndCell c t) 0 := rfl
theorem RcvR_0 (c : Dev nD) (t : T) : RcvR (F := F) c t false = iprop(cred (tallyAt (rcvCell c t) () N) ∗ atPos ER (rcvCell c t) 0 ∅ 0) := rfl
theorem RcvR_1 (c : Dev nD) (t : T) : RcvR (F := F) c t true = semVal (rcvCell c t) 0 := rfl
theorem PcR_0 (c : Dev nD) (p : P) : PcR m c p false = iprop(emp) := rfl
theorem PcR_1 (c : Dev nD) (p : P) : PcR m c p true = piece m c p := rfl
theorem PcR_l (c : Dev nD) (t : T) : PcR m c (.inr (t, false)) true = landPts c t fullShare.left (fin m c) := rfl
theorem PcR_r (c : Dev nD) (t : T) : PcR m c (.inr (t, true)) true = landPts c t fullShare.right (fin m c) := rfl
theorem SlabR_0 (c : Dev nD) (i : Fin 8) : SlabR m c i 0 = iprop(xsPts m c i ∗ ∃ f, osPts c i f) := rfl
theorem SlabR_1 (c : Dev nD) (i : Fin 8) : SlabR m c i 1
    = iprop(Transfers.Flight EC (c : Thread nD τ) (.dma (ldS (slotOf i))) () (slot (slotOf i)).view.dmaCredit iprop(loaded m c i ∗ xsPts m c i)
      ∗ ∃ f, osPts c i f) := rfl
theorem SlabR_2 (c : Dev nD) (i : Fin 8) : SlabR m c i 2 = iprop(loaded m c i ∗ xsPts m c i ∗ ∃ f, osPts c i f) := rfl
theorem SlabR_3 (c : Dev nD) (i : Fin 8) : SlabR m c i 3
    = iprop(Transfers.Flight EC (c : Thread nD τ) (.dma (stS (slotOf i))) () (oSlab c i).view.dmaCredit
      iprop(osPts c i (fin m c) ∗ ∃ f, slotPts c (slotOf i) f) ∗ xsPts m c i) := rfl
theorem SlabR_4 (c : Dev nD) (i : Fin 8) : SlabR m c i 4 = iprop(osPts c i (fin m c) ∗ xsPts m c i) := rfl
theorem SltR_0 (c : Dev nD) (s : Fin 4) : SltR (F := F) c s false = iprop(emp) := rfl
theorem SltR_1 (c : Dev nD) (s : Fin 4) : SltR (F := F) c s true = iprop(∃ f, slotPts c s f) := rfl
theorem LdR_0 (c : Dev nD) (s : Fin 4) : LdR (F := F) c s false = iprop(emp) := rfl
theorem LdR_1 (c : Dev nD) (s : Fin 4) : LdR (F := F) c s true = semVal ((c : Thread nD τ), .dma (ldS s)) 0 := rfl
theorem StR_0 (c : Dev nD) (s : Fin 4) : StR (F := F) c s false = iprop(emp) := rfl
theorem StR_1 (c : Dev nD) (s : Fin 4) : StR (F := F) c s true = semVal ((c : Thread nD τ), .dma (stS s)) 0 := rfl

/-! ## What a transfer leaves -/

omit [FloatOps F] in
theorem read_o_congr (c : Dev nD) (f : Buf (Elt F) ((c : Thread nD τ).loc main_v1)) {off off' : Fin 2 → ℕ} (e : off = off') (h h') (x : S256x1024.Idx) :
    (oAt off h).view.read (Elt F) f x = (oAt off' h').view.read (Elt F) f x := by subst e; rfl

/-- What a transfer reads is what its landing place is to hold. -/
theorem read_src (c : Dev nD) (t : T) (x : S256x1024.Idx) :
    (landM (nb t.dir c) t).view.read (Elt F) (fin m (nb t.dir c)) x = (srcM c t).view.read (Elt F) (srcC m c t) x := by
  cases t with
  | X k => exact read_x m c (.X k) _ _ ((xOff_col c).1 k) (src_X c k) x
  | XD k => exact read_x m c (.XD k) _ _ ((xOff_col c).2 k) (src_XD c k) x
  | YD k => exact (read_o m c (.YD k) (by simp [T.dir]) x).trans (read_o_congr c (fin m c) (dstOff_eq c (.YD k)).symm _ _ x)
  | ZD k => exact (read_o m c (.ZD k) (by simp [T.dir]) x).trans (read_o_congr c (fin m c) (dstOff_eq c (.ZD k)).symm _ _ x)
  | YDG k => exact (read_o m c (.YDG k) (by simp [T.dir]) x).trans (read_o_congr c (fin m c) (dstOff_eq c (.YDG k)).symm _ _ x)
  | ZDG k => exact (read_o m c (.ZDG k) (by simp [T.dir]) x).trans (read_o_congr c (fin m c) (dstOff_eq c (.ZDG k)).symm _ _ x)

/-- Rows written with what a transfer reads are the landing place at its final contents. -/
theorem lands (c : Dev nD) (t : T) (off : Fin 2 → ℕ) (h) (e : off = landOff (nb t.dir c) t)
    (fd : Buf (Elt F) ((nb t.dir c : Thread nD τ).loc main_v1)) :
    ((oAt off h).view.loc (nb t.dir c : Thread nD τ) ↦[(oAt off h).view.set]{fullShare}
        (oAt off h).view.write (Elt F) fd ((srcM c t).view.read (Elt F) (srcC m c t)) Finset.univ : sProp 𝕄)
      ⊢ landPts (nb t.dir c) t fullShare (fin m (nb t.dir c)) := by
  subst e
  unfold landPts
  exact Entails.of_eq (pointsTo_congr (write_read (dst := landM (nb t.dir c) t) (src := srcM c t) fd (srcC m c t) (fin m (nb t.dir c)) (read_src m c t)))

/-- Room for a transfer, named as the transfer names it. -/
theorem room (c : Dev nD) (t : T) (off : Fin 2 → ℕ) (h) (e : off = landOff (nb t.dir c) t)
    (f : Buf (Elt F) ((nb t.dir c : Thread nD τ).loc main_v1)) :
    (landPts (nb t.dir c) t fullShare f : sProp 𝕄) ⊢ (oAt off h).view.loc (nb t.dir c : Thread nD τ) ↦[(oAt off h).view.set]{fullShare} f := by
  subst e; unfold landPts; exact Entails.refl _

/-- The piece a transfer reads is what it reads. -/
theorem piece_src (c : Dev nD) (t : T) : piece m c (srcOf t) = srcPts m c t := by
  cases t <;> rfl

/-! ## The operations -/

section Ops

variable (K : Dev nD × CK → ℕ) (c : Dev nD) (σ : State) (k : Prog (TpuEff nD τ sig (Elt F) Λ₀ .tc) PUnit)

theorem todo_send (t : T) : (post σ (.send t)).todo = Function.update σ.todo t false := by
  funext u
  by_cases h : u = t
  · subst h; simp [State.todo, post]
  · simp [State.todo, post, Function.update_of_ne h]

theorem todo_sent (t : T) (h : σ.snd t = 1) : (post σ (.sent t)).todo = σ.todo := by
  funext u
  by_cases hu : u = t
  · subst hu; simp [State.todo, post, h]
  · simp [State.todo, post, Function.update_of_ne hu]

/-- A transfer issued. -/
theorem step_send (t : T) (h : pre σ (.send t) = true) {Q : PUnit → sProp 𝕄} :
    iprop(Ctx m K ∗ St m c σ) ⊢ iprop((St m c (post σ (.send t)) -∗ wp frame (wpE (defs₀ (F := F)) 𝒱₀ (c : Thread nD τ) none) Set.univ k Q)
      -∗ wp frame (wpE (defs₀ (F := F)) 𝒱₀ (c : Thread nD τ) none) Set.univ (.op (eff c (.send t)) fun _ => k) Q) := by
  simp only [pre, Bool.and_eq_true, decide_eq_true_eq] at h
  unfold St
  rw [todo_send, owing_peel σ.todo c t (by simp [State.todo, h.1])]
  iintro ⟨#HC, HS, HR, HP, HL, HT, HA, HB, %W, HO⟩ Hk
  icases (focus (fun t => SndR (F := F) c t) σ.snd t 0 h.1 1 (SndR_0 c t) (SndR_1 c t)) $$ HS with ⟨⟨Hroom, Ht1, Ht2, Hat⟩, HS⟩
  unfold roomPts
  icases Hroom with ⟨%fd, Hroom⟩
  icases (focus (PcR m c) σ.pc (srcOf t) true h.2 false (PcR_1 m c _) (PcR_0 m c _)) $$ HP with ⟨Hsrc, HP⟩
  ihave Hsrc := (Entails.of_eq (piece_src m c t)) $$ Hsrc
  ihave Hroom := (room c t (dstOff c t) (dstOff_inb c t) (dstOff_eq c t) fd) $$ Hroom
  unfold eff
  iapply (Rounds.wp_send_pointsTo 𝒱₀ ER (Rd m) (c : Thread nD τ) none (src := srcM c t) (dst := dstM c t) (c' := (nb t.dir c : Thread nD τ)) (sS := .dma (sS t)) (sem := .dma (rS t)) (κ₁ := K (c, .inr (.inl t))) (κ₂ := K (nb t.dir c, .inr (.inr t)))
    (r₁ := 0) (r₂ := 0) (d₁ := (0 : Fin 3)) (d₂ := (0 : Fin 3)) (fs := srcC m c t) (fd := fd) (q := srcQ t)
    (by rw [duties_snd m c t]; exact Finset.mem_singleton_self _) (by rw [duties_rcv m (nb t.dir c) t]; exact Finset.mem_singleton_self _)
    () () N rfl (amount_snd m c t 0) (amount_rcv m (nb t.dir c) t 0) (owing (Function.update σ.todo t false) c) rfl (W := W)
    (by rw [payload_snd]; unfold srcPts; exact Entails.refl _)
    (by rw [payload_rcv]; exact lands m c t (dstOff c t) (dstOff_inb c t) (dstOff_eq c t) fd)) $$ [Hsrc Hroom HO Ht1 Ht2]
  · isplitr; · iapply (Ctx_snd m K c t); iexact HC
    isplitr; · iapply (Ctx_rcv m K (nb t.dir c) t); iexact HC
    isplitl [Hsrc]; · unfold srcPts; iexact Hsrc
    isplitl [Hroom]; · iexact Hroom
    isplitl [HO]; · iexact HO
    isplitl [Ht1]; · iexact Ht1
    isplitr; · iapply (Ctx_rsnd m K c t); iexact HC
    isplitl [Ht2]; · iexact Ht2
    iapply (Ctx_rrcv m K (nb t.dir c) t); iexact HC
  iintro ⟨Hcr, HO⟩
  iapply Hk
  isplitl [HS Hcr Hat]
  · iapply HS; isplitl [Hcr]; · iexact Hcr
    iexact Hat
  isplitl [HR]; · iexact HR
  isplitl [HP]; · iapply HP; iempintro
  isplitl [HL]; · iexact HL
  isplitl [HT]; · iexact HT
  isplitl [HA]; · iexact HA
  isplitl [HB]; · iexact HB
  iexists W; iexact HO

theorem cred_src (c : Dev nD) (t : T) : (cred (tallyAt (sndCell c t) () N) : sProp 𝕄) ⊢ cred (tallyAt (sndCell c t) () (srcM c t).view.dmaCredit) := by
  rw [credit_src]

/-- A transfer awaited by its sender: what it read comes back. -/
theorem step_sent (t : T) (h : pre σ (.sent t) = true) {Q : PUnit → sProp 𝕄} :
    iprop(Ctx m K ∗ St m c σ) ⊢ iprop((St m c (post σ (.sent t)) -∗ wp frame (wpE (defs₀ (F := F)) 𝒱₀ (c : Thread nD τ) none) Set.univ k Q)
      -∗ wp frame (wpE (defs₀ (F := F)) 𝒱₀ (c : Thread nD τ) none) Set.univ (.op (eff c (.sent t)) fun _ => k) Q) := by
  simp only [pre, Bool.and_eq_true, decide_eq_true_eq, Bool.not_eq_true'] at h
  unfold St
  rw [todo_sent σ t h.1]
  iintro ⟨#HC, HS, HR, HP, HL, HT, HA, HB, %W, HO⟩ Hk
  icases (focus (fun t => SndR (F := F) c t) σ.snd t 1 h.1 2 (SndR_1 c t) (SndR_2 c t)) $$ HS with ⟨⟨Hcr, Hat⟩, HS⟩
  icases (focus (PcR m c) σ.pc (srcOf t) false h.2 true (PcR_0 m c _) (PcR_1 m c _)) $$ HP with ⟨-, HP⟩
  unfold eff
  iapply (Rounds.wp_wait_rest_token 𝒱₀ ER (Rd m) (c : Thread nD τ) none (κ := K (c, .inr (.inl t)))
      (wpE_waitDma2_eq 𝒱₀ (c : Thread nD τ) none Set.univ) (Set.mem_univ _) () (O := owing σ.todo c) (W := W) (R := 0) (m := 0) (T := ∅)
      (by rw [Nat.zero_add]; exact (credit_src c t).trans (expect_snd m c t).symm)) $$ [Hcr HO Hat]
  · isplitr; · iapply (Ctx_snd m K c t); iexact HC
    isplitl [Hcr]; · iapply (cred_src c t); iexact Hcr
    isplitl [HO]; · iexact HO
    isplitr
    · iapply (mayWait σ.todo c (.dma (sS t)) 0 (lv_snd c t ()) (fun u _ => lt_of_lt_of_le (by decide) (two_le_lvT u)))
      iapply (Ctx_lev m K); iexact HC
    iexact Hat
  iintro ⟨HO, Hat, -, Hpay⟩
  ihave Hsrc := (Entails.of_eq ((rest_snd m c t).trans (piece_src m c t).symm)) $$ Hpay
  imod (Rounds.cell_close ER (Rd m) (Set.mem_univ (K (c, .inr (.inl t)))) (fun h => h) (R := 0 + 1) (duties_later m (sndCell c t))) $$ [Hat] with Hz
  · isplitr; · iapply (Ctx_snd m K c t); iexact HC
    iexact Hat
  iapply Hk
  isplitl [HS Hz]; · iapply HS; iexact Hz
  isplitl [HR]; · iexact HR
  isplitl [HP Hsrc]; · iapply HP; iexact Hsrc
  isplitl [HL]; · iexact HL
  isplitl [HT]; · iexact HT
  isplitl [HA]; · iexact HA
  isplitl [HB]; · iexact HB
  iexists _; iexact HO

theorem todo_recv (t : T) : (post σ (.recv t)).todo = σ.todo := rfl
theorem land_halves (c : Dev nD) (t : T) (f) :
    (landPts c t fullShare f : sProp 𝕄) ⊢ iprop(landPts c t fullShare.left f ∗ landPts c t fullShare.right f) := by
  unfold landPts; exact (pointsTo_share (PosShare.mem_left_op_right fullShare)).1
theorem land_join (c : Dev nD) (t : T) (f) :
    iprop(landPts c t fullShare.left f ∗ landPts c t fullShare.right f) ⊢ (landPts c t fullShare f : sProp 𝕄) := by
  unfold landPts; exact (pointsTo_share (PosShare.mem_left_op_right fullShare)).2

/-- A transfer awaited by its receiver: the landing place at its final contents, in two halves. -/
theorem step_recv (t : T) (h : pre σ (.recv t) = true) {Q : PUnit → sProp 𝕄} :
    iprop(Ctx m K ∗ St m c σ) ⊢ iprop((St m c (post σ (.recv t)) -∗ wp frame (wpE (defs₀ (F := F)) 𝒱₀ (c : Thread nD τ) none) Set.univ k Q)
      -∗ wp frame (wpE (defs₀ (F := F)) 𝒱₀ (c : Thread nD τ) none) Set.univ (.op (eff c (.recv t)) fun _ => k) Q) := by
  simp only [pre, Bool.and_eq_true, decide_eq_true_eq, Bool.not_eq_true'] at h
  obtain ⟨⟨⟨hr, hl⟩, hrr⟩, hlev⟩ := h
  unfold St
  rw [todo_recv σ t]
  iintro ⟨#HC, HS, HR, HP, HL, HT, HA, HB, %W, HO⟩ Hk
  icases (focus (fun t => RcvR (F := F) c t) σ.rcv t false hr true (RcvR_0 c t) (RcvR_1 c t)) $$ HR with ⟨⟨Hcr, Hat⟩, HR⟩
  icases (focus (PcR m c) σ.pc (.inr (t, false)) false hl true (PcR_0 m c _) (PcR_l m c t)) $$ HP with ⟨-, HP⟩
  unfold eff
  iapply (Rounds.wp_wait_rest_token 𝒱₀ ER (Rd m) (c : Thread nD τ) none (κ := K (c, .inr (.inr t)))
      (wpE_waitDma2_eq 𝒱₀ (c : Thread nD τ) none Set.univ) (Set.mem_univ _) () (O := owing σ.todo c) (W := W) (R := 0) (m := 0) (T := ∅)
      (by rw [Nat.zero_add]; exact (credit_o (landOff c t) (landOff_inb c t)).trans (expect_rcv m c t).symm)) $$ [Hcr HO Hat]
  · isplitr; · iapply (Ctx_rcv m K c t); iexact HC
    isplitl [Hcr]; · iexact Hcr
    isplitl [HO]; · iexact HO
    isplitr
    · iapply (mayWait σ.todo c (.dma (rS t)) (lvT t) (lv_rcv c t ()) hlev)
      iapply (Ctx_lev m K); iexact HC
    iexact Hat
  iintro ⟨HO, Hat, -, Hpay⟩
  ihave Hland := (Entails.of_eq (rest_rcv m c t)) $$ Hpay
  icases (land_halves (F := F) c t (fin m c)) $$ Hland with ⟨Hl, Hr⟩
  imod (Rounds.cell_close ER (Rd m) (Set.mem_univ (K (c, .inr (.inr t)))) (fun h => h) (R := 0 + 1) (duties_later m (rcvCell c t))) $$ [Hat] with Hz
  · isplitr; · iapply (Ctx_rcv m K c t); iexact HC
    iexact Hat
  ihave HP := HP $$ [Hl]; · iexact Hl
  icases (focus (PcR m c) (Function.update σ.pc (.inr (t, false)) true) (.inr (t, true)) false
    (by rw [Function.update_of_ne (by simp)]; exact hrr) true (PcR_0 m c _) (PcR_r m c t)) $$ HP with ⟨-, HP⟩
  iapply Hk
  isplitl [HS]; · iexact HS
  isplitl [HR Hz]; · iapply HR; iexact Hz
  isplitl [HP Hr]; · iapply HP; iexact Hr
  isplitl [HL]; · iexact HL
  isplitl [HT]; · iexact HT
  isplitl [HA]; · iexact HA
  isplitl [HB]; · iexact HB
  iexists _; iexact HO

/-! The local copy. -/

theorem slot_credit_pos (s : Fin 4) : 0 < (slot s).view.dmaCredit := View.dmaCredit_pos _ (by decide +kernel)
theorem slab_credit_pos (i : Fin 8) : 0 < (oSlab c i).view.dmaCredit := View.dmaCredit_pos _ (by decide +kernel)

theorem ld_not (s : Fin 4) : ∀ k, csem k ≠ .dma (ldS s) := by
  have h : ∀ (s : Fin 4) (k : CK), csem k ≠ .dma (ldS s) := by decide +kernel
  exact h s
theorem st_not (s : Fin 4) : ∀ k, csem k ≠ .dma (stS s) := by
  have h : ∀ (s : Fin 4) (k : CK), csem k ≠ .dma (stS s) := by decide +kernel
  exact h s

/-- A slot written with a slab holds the slab. -/
theorem slot_loaded (i : Fin 8) (f : Buf (Elt F) ((c : Thread nD τ).loc cc0_scratch0)) :
    ((slot (slotOf i)).view.loc (c : Thread nD τ) ↦[(slot (slotOf i)).view.set]{fullShare}
        (slot (slotOf i)).view.write (Elt F) f (ReadAs.same.apply ((xSlab i).view.read (Elt F) (arg m c))) Finset.univ : sProp 𝕄) ⊢ loaded m c i := by
  unfold loaded slotPts
  iintro H
  iexists _
  isplitr
  rotate_left
  · iexact H
  · ipureintro; intro x; rw [View.read_write_univ]

/-- The own half written with a slot holding a slab is at its final contents. -/
theorem slab_stored (i : Fin 8) (f : Buf (Elt F) ((c : Thread nD τ).loc main_v1)) (g : Buf (Elt F) ((c : Thread nD τ).loc cc0_scratch0))
    (hg : ∀ x, (slot (slotOf i)).view.read (Elt F) g x = (xSlab i).view.read (Elt F) (arg m c) x) :
    ((oSlab c i).view.loc (c : Thread nD τ) ↦[(oSlab c i).view.set]{fullShare}
        (oSlab c i).view.write (Elt F) f (ReadAs.same.apply ((slot (slotOf i)).view.read (Elt F) g)) Finset.univ : sProp 𝕄) ⊢ osPts c i (fin m c) := by
  unfold osPts
  exact Entails.of_eq (pointsTo_congr (write_read (dst := oSlab c i) (src := slot (slotOf i)) f g (fin m c)
    fun x => (read_slab m c i x).trans (hg x).symm))

theorem xs_some (i : Fin 8) :
    ((xSlab i).view.loc (c : Thread nD τ) ↦[(xSlab i).view.set]{fullShare.right} arg m c : sProp 𝕄) ⊢ xsPts m c i := by
  unfold xsPts; exact Entails.refl _

/-- A slab's load issued. -/
theorem step_ld (i : Fin 8) (h : pre σ (.ld i) = true) {Q : PUnit → sProp 𝕄} :
    iprop(Ctx m K ∗ St m c σ) ⊢ iprop((St m c (post σ (.ld i)) -∗ wp frame (wpE (defs₀ (F := F)) 𝒱₀ (c : Thread nD τ) none) Set.univ k Q)
      -∗ wp frame (wpE (defs₀ (F := F)) 𝒱₀ (c : Thread nD τ) none) Set.univ (.op (eff c (.ld i)) fun _ => k) Q) := by
  simp only [pre, Bool.and_eq_true, decide_eq_true_eq] at h
  obtain ⟨⟨h1, h2⟩, h3⟩ := h
  unfold St
  iintro ⟨#HC, HS, HR, HP, HL, HT, HA, HB, HO⟩ Hk
  icases (focus (SlabR m c) σ.slab i 0 h1 1 (SlabR_0 m c i) (SlabR_1 m c i)) $$ HL with ⟨⟨Hx, Ho⟩, HL⟩
  icases (focus (SltR (F := F) c) σ.slt (slotOf i) true h2 false (SltR_1 c _) (SltR_0 c _)) $$ HT with ⟨⟨%f, Hs⟩, HT⟩
  icases (focus (LdR (F := F) c) σ.ldF (slotOf i) true h3 false (LdR_1 c _) (LdR_0 c _)) $$ HA with ⟨Hz, HA⟩
  unfold eff
  iapply (Transfers.wp_dmaLocal EC 𝒱₀ (c : Thread nD τ) none (src := xSlab i) (dst := slot (slotOf i)) (sm := .dma (ldS (slotOf i)))
    (q := fullShare.right) (fs := arg m c) (fd := f) (Sd := (slot (slotOf i)).view.set)
    () (slot (slotOf i)).view.dmaCredit rfl (slot_credit_pos _) (fun _ h => h)) $$ [Hx Hs Hz]
  · isplitl [Hx]; · unfold xsPts; iexact Hx
    isplitl [Hs]; · unfold slotPts; iexact Hs
    iexact Hz
  iintro Hf
  ihave Hf := (Transfers.Flight_mono (D' := iprop(loaded m c i ∗ xsPts m c i)) EC (c : Thread nD τ) (BIClass.sep_mono (slot_loaded m c i f) (xs_some m c i))) $$ Hf
  iapply Hk
  isplitl [HS]; · iexact HS
  isplitl [HR]; · iexact HR
  isplitl [HP]; · iexact HP
  isplitl [HL Hf Ho]
  · iapply HL
    isplitl [Hf]; · iexact Hf
    iexact Ho
  isplitl [HT]; · iapply HT; iempintro
  isplitl [HA]; · iapply HA; iempintro
  isplitl [HB]; · iexact HB
  iexact HO

/-- A slab's load awaited. -/
theorem step_ldW (i : Fin 8) (h : pre σ (.ldW i) = true) {Q : PUnit → sProp 𝕄} :
    iprop(Ctx m K ∗ St m c σ) ⊢ iprop((St m c (post σ (.ldW i)) -∗ wp frame (wpE (defs₀ (F := F)) 𝒱₀ (c : Thread nD τ) none) Set.univ k Q)
      -∗ wp frame (wpE (defs₀ (F := F)) 𝒱₀ (c : Thread nD τ) none) Set.univ (.op (eff c (.ldW i)) fun _ => k) Q) := by
  simp only [pre, Bool.and_eq_true, decide_eq_true_eq, Bool.not_eq_true'] at h
  obtain ⟨h1, h3⟩ := h
  unfold St
  iintro ⟨#HC, HS, HR, HP, HL, HT, HA, HB, %W, HO⟩ Hk
  icases (focus (SlabR m c) σ.slab i 1 h1 2 (SlabR_1 m c i) (SlabR_2 m c i)) $$ HL with ⟨⟨Hf, Ho⟩, HL⟩
  icases (focus (LdR (F := F) c) σ.ldF (slotOf i) false h3 true (LdR_0 c _) (LdR_1 c _)) $$ HA with ⟨-, HA⟩
  unfold eff
  iapply (Transfers.wp_waitLocalO EC 𝒱₀ (c : Thread nD τ) none (dstw := slot (slotOf i)) () rfl (O := owing σ.todo c) (W := W)) $$ [Hf HO]
  · isplitl [Hf]; · iexact Hf
    isplitl [HO]; · iexact HO
    iapply (mayWait σ.todo c (.dma (ldS (slotOf i))) 0 (lv_of_not c _ (ld_not _) ()) (fun u _ => lt_of_lt_of_le (by decide) (two_le_lvT u)))
    iapply (Ctx_lev m K); iexact HC
  iintro ⟨⟨Hs, Hx⟩, Hz, HO⟩
  iapply Hk
  isplitl [HS]; · iexact HS
  isplitl [HR]; · iexact HR
  isplitl [HP]; · iexact HP
  isplitl [HL Hs Hx Ho]
  · iapply HL
    isplitl [Hs]; · iexact Hs
    isplitl [Hx]; · iexact Hx
    iexact Ho
  isplitl [HT]; · iexact HT
  isplitl [HA Hz]; · iapply HA; iexact Hz
  isplitl [HB]; · iexact HB
  iexists _; iexact HO

theorem slot_some (s : Fin 4) (g : Buf (Elt F) ((c : Thread nD τ).loc cc0_scratch0)) :
    ((slot s).view.loc (c : Thread nD τ) ↦[(slot s).view.set]{fullShare} g : sProp 𝕄) ⊢ iprop(∃ f, slotPts c s f) := by
  unfold slotPts
  iintro H
  iexists g; iexact H

/-- A slab's store issued. -/
theorem step_st (i : Fin 8) (h : pre σ (.st i) = true) {Q : PUnit → sProp 𝕄} :
    iprop(Ctx m K ∗ St m c σ) ⊢ iprop((St m c (post σ (.st i)) -∗ wp frame (wpE (defs₀ (F := F)) 𝒱₀ (c : Thread nD τ) none) Set.univ k Q)
      -∗ wp frame (wpE (defs₀ (F := F)) 𝒱₀ (c : Thread nD τ) none) Set.univ (.op (eff c (.st i)) fun _ => k) Q) := by
  simp only [pre, Bool.and_eq_true, decide_eq_true_eq] at h
  obtain ⟨h1, h3⟩ := h
  unfold St
  iintro ⟨#HC, HS, HR, HP, HL, HT, HA, HB, HO⟩ Hk
  icases (focus (SlabR m c) σ.slab i 2 h1 3 (SlabR_2 m c i) (SlabR_3 m c i)) $$ HL with ⟨⟨Hs, Hx, ⟨%f, Ho⟩⟩, HL⟩
  icases (focus (StR (F := F) c) σ.stF (slotOf i) true h3 false (StR_1 c _) (StR_0 c _)) $$ HB with ⟨Hz, HB⟩
  unfold loaded
  icases Hs with ⟨%g, %hg, Hs⟩
  unfold eff
  iapply (Transfers.wp_dmaLocal EC 𝒱₀ (c : Thread nD τ) none (src := slot (slotOf i)) (dst := oSlab c i) (sm := .dma (stS (slotOf i)))
    (q := fullShare) (fs := g) (fd := f) (Sd := (oSlab c i).view.set)
    () (oSlab c i).view.dmaCredit rfl (slab_credit_pos c i) (fun _ h => h)) $$ [Hs Ho Hz]
  · isplitl [Hs]; · unfold slotPts; iexact Hs
    isplitl [Ho]; · unfold osPts; iexact Ho
    iexact Hz
  iintro Hf
  ihave Hf := (Transfers.Flight_mono (D' := iprop(osPts c i (fin m c) ∗ ∃ f, slotPts c (slotOf i) f)) EC (c : Thread nD τ)
    (BIClass.sep_mono (slab_stored m c i f g hg) (slot_some c (slotOf i) g))) $$ Hf
  iapply Hk
  isplitl [HS]; · iexact HS
  isplitl [HR]; · iexact HR
  isplitl [HP]; · iexact HP
  isplitl [HL Hf Hx]
  · iapply HL
    isplitl [Hf]; · iexact Hf
    iexact Hx
  isplitl [HT]; · iexact HT
  isplitl [HA]; · iexact HA
  isplitl [HB]; · iapply HB; iempintro
  iexact HO

/-- A slab's store awaited. -/
theorem step_stW (i : Fin 8) (h : pre σ (.stW i) = true) {Q : PUnit → sProp 𝕄} :
    iprop(Ctx m K ∗ St m c σ) ⊢ iprop((St m c (post σ (.stW i)) -∗ wp frame (wpE (defs₀ (F := F)) 𝒱₀ (c : Thread nD τ) none) Set.univ k Q)
      -∗ wp frame (wpE (defs₀ (F := F)) 𝒱₀ (c : Thread nD τ) none) Set.univ (.op (eff c (.stW i)) fun _ => k) Q) := by
  simp only [pre, Bool.and_eq_true, decide_eq_true_eq, Bool.not_eq_true'] at h
  obtain ⟨⟨h1, h3⟩, h2⟩ := h
  unfold St
  iintro ⟨#HC, HS, HR, HP, HL, HT, HA, HB, %W, HO⟩ Hk
  icases (focus (SlabR m c) σ.slab i 3 h1 4 (SlabR_3 m c i) (SlabR_4 m c i)) $$ HL with ⟨⟨Hf, Hx⟩, HL⟩
  icases (focus (SltR (F := F) c) σ.slt (slotOf i) false h2 true (SltR_0 c _) (SltR_1 c _)) $$ HT with ⟨-, HT⟩
  icases (focus (StR (F := F) c) σ.stF (slotOf i) false h3 true (StR_0 c _) (StR_1 c _)) $$ HB with ⟨-, HB⟩
  unfold eff
  iapply (Transfers.wp_waitLocalO EC 𝒱₀ (c : Thread nD τ) none (dstw := oSlab c i) () rfl (O := owing σ.todo c) (W := W)) $$ [Hf HO]
  · isplitl [Hf]; · iexact Hf
    isplitl [HO]; · iexact HO
    iapply (mayWait σ.todo c (.dma (stS (slotOf i))) 0 (lv_of_not c _ (st_not _) ()) (fun u _ => lt_of_lt_of_le (by decide) (two_le_lvT u)))
    iapply (Ctx_lev m K); iexact HC
  iintro ⟨⟨Ho, Hs⟩, Hz, HO⟩
  iapply Hk
  isplitl [HS]; · iexact HS
  isplitl [HR]; · iexact HR
  isplitl [HP]; · iexact HP
  isplitl [HL Ho Hx]
  · iapply HL
    isplitl [Ho]; · iexact Ho
    iexact Hx
  isplitl [HT Hs]; · iapply HT; iexact Hs
  isplitl [HA]; · iexact HA
  isplitl [HB Hz]; · iapply HB; iexact Hz
  iexists _; iexact HO

/-- Any operation that may run. -/
theorem step (o : Op) (h : pre σ o = true) {Q : PUnit → sProp 𝕄} :
    iprop(Ctx m K ∗ St m c σ) ⊢ iprop((St m c (post σ o) -∗ wp frame (wpE (defs₀ (F := F)) 𝒱₀ (c : Thread nD τ) none) Set.univ k Q)
      -∗ wp frame (wpE (defs₀ (F := F)) 𝒱₀ (c : Thread nD τ) none) Set.univ (.op (eff c o) fun _ => k) Q) := by
  cases o with
  | sig d => exact absurd h (by simp [pre])
  | bar => exact absurd h (by simp [pre])
  | send t => exact step_send m K c σ k t h
  | sent t => exact step_sent m K c σ k t h
  | recv t => exact step_recv m K c σ k t h
  | ld i => exact step_ld m K c σ k i h
  | ldW i => exact step_ldW m K c σ k i h
  | st i => exact step_st m K c σ k i h
  | stW i => exact step_stW m K c σ k i h

end Ops

/-- A program that runs through takes the holdings of its first state to those of its last. -/
theorem run (K : Dev nD × CK → ℕ) (c : Dev nD) (l : List Op) : ∀ (σ : State) (_ : runs σ l = true) {Q : PUnit → sProp 𝕄},
    iprop(Ctx m K ∗ St m c σ ∗ (St m c (ends σ l) -∗ Q ⟨⟩))
      ⊢ wp frame (wpE (defs₀ (F := F)) 𝒱₀ (c : Thread nD τ) none) Set.univ (prog c l) Q := by
  induction l with
  | nil =>
    intro σ _ Q
    iintro ⟨-, HS, HQ⟩
    unfold prog
    rw [wp_ret]; imodintro
    iapply HQ; iexact HS
  | cons o l ih =>
    intro σ h Q
    simp only [runs, Bool.and_eq_true] at h
    iintro ⟨#HC, HS, HQ⟩
    unfold prog
    iapply (step m K c σ (prog c l) o h.1) $$ [HS]
    · isplitr; · iexact HC
      iexact HS
    iintro HS
    iapply (ih (post σ o) h.2)
    isplitr; · iexact HC
    isplitl [HS]; · iexact HS
    iexact HQ

end Cert.GatherIdeal
-- ==== Proof.Blocks.lean ====
/-
# `Blocks`: the buffers in pieces

The output splits into the chunks landed and the own slabs, the argument into slabs at one half share and the rows sent
(and what is left) at the other, the scratch into its four slots; and each joins back.
-/
module

public import proofs.«01_k».proof.Proof.Step
public import Idealize.ShloMosaic.Lib.Ring

@[expose] public section

noncomputable section

namespace Cert.GatherIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The output -/

/-- The chunks landed, and the slabs copied. -/
def oset (c : Dev nD) : T ⊕ Fin 8 → Finset (Idx ((c : Thread nD τ).loc main_v1))
  | .inl t => (landM c t).view.set
  | .inr i => (oSlab c i).view.set

theorem oset_disjoint (c : Dev nD) : ∀ b b', b ≠ b' → Disjoint (oset c b) (oset c b') := by
  intro b b' hb
  rw [Finset.disjoint_left]
  intro i h h'
  have hc : c.val < 8 := c.isLt
  match b, b' with
  | .inl t, .inl t' =>
    have e := (mem_land c t i).mp h
    have e' := (mem_land c t' i).mp h'
    exact hb (congrArg Sum.inl (ch_inj c t t' (e.symm.trans e')))
  | .inl t, .inr s =>
    have e := (mem_land c t i).mp h
    have e' := (mem_oSlab c s i).mp h'
    have := ch_half c t
    have := s.isLt
    omega
  | .inr s, .inl t =>
    have e := (mem_land c t i).mp h'
    have e' := (mem_oSlab c s i).mp h
    have := ch_half c t
    have := s.isLt
    omega
  | .inr s, .inr s' =>
    have e := (mem_oSlab c s i).mp h
    have e' := (mem_oSlab c s' i).mp h'
    exact hb (congrArg Sum.inr (Fin.ext (by omega)))

theorem mem_oset_l (c : Dev nD) (t : T) (i : Idx ((c : Thread nD τ).loc main_v1)) : i ∈ oset c (.inl t) ↔ (i 0).val / 256 = ch c t := mem_land c t i
theorem mem_oset_r (c : Dev nD) (s : Fin 8) (i : Idx ((c : Thread nD τ).loc main_v1)) :
    i ∈ oset c (.inr s) ↔ (i 0).val / 1024 = 8 * (c.val / 4) + s.val := mem_oSlab c s i

theorem oset_mem (c : Dev nD) (i : Idx ((c : Thread nD τ).loc main_v1)) : ∃ b, i ∈ oset c b := by
  have hi : (i 0).val < 16384 := (i 0).isLt
  have hc : c.val < 8 := c.isLt
  generalize hr : (i 0).val = r at hi
  by_cases h : r / 256 / 32 = c.val / 4
  · have hs : r / 1024 - 8 * (c.val / 4) < 8 := by omega
    refine ⟨.inr ⟨r / 1024 - 8 * (c.val / 4), hs⟩, ?_⟩
    rw [mem_oset_r, hr]
    show r / 1024 = 8 * (c.val / 4) + (r / 1024 - 8 * (c.val / 4))
    omega
  · obtain ⟨t, ht⟩ := ch_surj c (r / 256) (by omega) h
    refine ⟨.inl t, ?_⟩
    rw [mem_oset_l, hr, ht]

theorem oset_cover (c : Dev nD) : Finset.univ.biUnion (oset c) = Finset.univ := by
  refine Finset.eq_univ_iff_forall.mpr fun i => ?_
  obtain ⟨b, hb⟩ := oset_mem c i
  exact Finset.mem_biUnion.mpr ⟨b, Finset.mem_univ _, hb⟩

/-- The output held whole is its landing places and its own slabs held. -/
theorem out_eq (c : Dev nD) (f : Buf (Elt F) ((c : Thread nD τ).loc main_v1)) :
    (((c : Thread nD τ).loc main_v1) ↦{fullShare} f : sProp 𝕄)
      = iprop(bigSep Finset.univ (fun t : T => landPts c t fullShare f) ∗ bigSep Finset.univ fun i : Fin 8 => osPts c i f) := by
  rw [Ring.pointsTo_blocks (oset c) (oset_disjoint c) (oset_cover c) f, bigSep_univ_sum]
  rfl

/-! ## The argument -/

/-- The slabs of the argument. -/
def xsl (c : Dev nD) (i : Fin 8) : Finset (Idx ((c : Thread nD τ).loc main_arg0)) := (xSlab i).view.set
theorem mem_xsl (c : Dev nD) (s : Fin 8) (i : Idx ((c : Thread nD τ).loc main_arg0)) : i ∈ xsl c s ↔ (i 0).val / 1024 = s.val := mem_xSlab s i
theorem xsl_disjoint (c : Dev nD) : ∀ s s', s ≠ s' → Disjoint (xsl c s) (xsl c s') := by
  intro s s' hs
  rw [Finset.disjoint_left]
  intro i h h'
  exact hs (Fin.ext (((mem_xsl c s i).mp h).symm.trans ((mem_xsl c s' i).mp h')))
theorem xsl_cover (c : Dev nD) : Finset.univ.biUnion (xsl c) = Finset.univ := by
  refine Finset.eq_univ_iff_forall.mpr fun i => ?_
  have hi : (i 0).val < 8192 := (i 0).isLt
  have hs : (i 0).val / 1024 < 8 := by omega
  exact Finset.mem_biUnion.mpr ⟨⟨(i 0).val / 1024, hs⟩, Finset.mem_univ _, (mem_xsl c _ i).mpr rfl⟩

theorem xslab_eq (c : Dev nD) : (((c : Thread nD τ).loc main_arg0) ↦{fullShare.right} arg m c : sProp 𝕄)
    = bigSep Finset.univ fun i : Fin 8 => xsPts m c i :=
  Ring.pointsTo_blocks (ℓ := (c : Thread nD τ).loc main_arg0) (xsl c) (xsl_disjoint c) (xsl_cover c) (arg m c)

/-- The rows of the argument a transfer along x reads; none for the others. -/
def xset (c : Dev nD) : T → Finset (Idx ((c : Thread nD τ).loc main_arg0))
  | .X k => (srcM c (.X k)).view.set
  | .XD k => (srcM c (.XD k)).view.set
  | _ => ∅

/-- Where those rows start. -/
def xoff (c : Dev nD) : T → ℕ
  | .X k => k0_off2 c (BitVec.ofNat 32 (256 * k.val)) 0
  | .XD k => k0_off4 c (BitVec.ofNat 32 (256 * k.val)) 0
  | _ => 0

theorem xoff_apart (c : Dev nD) (t t' : T) : t.dir = 0 → t'.dir = 0 → t ≠ t' → xoff c t + 256 ≤ xoff c t' ∨ xoff c t' + 256 ≤ xoff c t := by
  revert c t t'; decide +kernel

theorem mem_xset (c : Dev nD) (t : T) (i : Idx ((c : Thread nD τ).loc main_arg0)) (h : i ∈ xset c t) :
    t.dir = 0 ∧ xoff c t ≤ (i 0).val ∧ (i 0).val < xoff c t + 256 := by
  cases t with
  | X k => exact ⟨rfl, (mem_xAt _ _ ((xOff_col c).1 k) i).mp h⟩
  | XD k => exact ⟨rfl, (mem_xAt _ _ ((xOff_col c).2 k) i).mp h⟩
  | _ => exact absurd h (Finset.notMem_empty i)

theorem xset_disjoint (c : Dev nD) (t t' : T) (ht : t ≠ t') : Disjoint (xset c t) (xset c t') := by
  rw [Finset.disjoint_left]
  intro i h h'
  obtain ⟨h1, h2, h3⟩ := mem_xset c t i h
  obtain ⟨h1', h2', h3'⟩ := mem_xset c t' i h'
  have := xoff_apart c t t' h1 h1' ht
  omega

theorem piece_inl (c : Dev nD) (t : T) : piece m c (.inl t) = (((c : Thread nD τ).loc main_arg0) ↦[xset c t]{fullShare.left} arg m c : sProp 𝕄) := by
  cases t with
  | X k => rfl
  | XD k => rfl
  | _ => exact (pointsTo_empty).symm

/-- What no transfer reads of the argument. -/
def xrest (c : Dev nD) : sProp 𝕄 :=
  ((c : Thread nD τ).loc main_arg0) ↦[Finset.univ \ Finset.univ.biUnion (xset c)]{fullShare.left} arg m c

/-- The argument at the other half share: the rows the transfers read, and the rest. -/
theorem xleft_iff (c : Dev nD) : (((c : Thread nD τ).loc main_arg0) ↦{fullShare.left} arg m c : sProp 𝕄)
    ⊣⊢ iprop((bigSep Finset.univ fun t : T => piece m c (.inl t)) ∗ xrest m c) := by
  have e : (bigSep Finset.univ fun t : T => piece m c (.inl t)) = (((c : Thread nD τ).loc main_arg0) ↦[Finset.univ.biUnion (xset c)]{fullShare.left} arg m c : sProp 𝕄) := by
    rw [pointsTo_biUnion Finset.univ (xset c) (fun t _ t' _ h => xset_disjoint c t t' h)]
    exact bigSep_congr fun t _ => piece_inl m c t
  rw [e]
  exact pointsTo_split_subset (Finset.subset_univ _)

/-- The argument held whole is all of that held. -/
theorem arg_split (c : Dev nD) : (((c : Thread nD τ).loc main_arg0) ↦{fullShare} arg m c : sProp 𝕄)
    ⊢ iprop((bigSep Finset.univ fun t : T => piece m c (.inl t)) ∗ xrest m c ∗ bigSep Finset.univ fun i : Fin 8 => xsPts m c i) := by
  iintro H
  icases ((pointsTo_share (PosShare.mem_left_op_right fullShare)).1) $$ H with ⟨Hl, Hr⟩
  icases ((xleft_iff m c).1) $$ Hl with ⟨Hp, Hx⟩
  ihave Hr := (Entails.of_eq (xslab_eq m c)) $$ Hr
  isplitl [Hp]; · iexact Hp
  isplitl [Hx]; · iexact Hx
  iexact Hr
theorem arg_join (c : Dev nD) :
    iprop((bigSep Finset.univ fun t : T => piece m c (.inl t)) ∗ xrest m c ∗ bigSep Finset.univ fun i : Fin 8 => xsPts m c i)
      ⊢ (((c : Thread nD τ).loc main_arg0) ↦{fullShare} arg m c : sProp 𝕄) := by
  iintro ⟨Hp, Hx, Hr⟩
  ihave Hr := (Entails.of_eq (xslab_eq m c).symm) $$ Hr
  iapply ((pointsTo_share (PosShare.mem_left_op_right fullShare)).2)
  isplitl [Hp Hx]
  · iapply ((xleft_iff m c).2)
    isplitl [Hp]; · iexact Hp
    iexact Hx
  iexact Hr

/-! ## The scratch -/

def slots (c : Dev nD) (s : Fin 4) : Finset (Idx ((c : Thread nD τ).loc cc0_scratch0)) := (slot s).view.set
theorem mem_slots (c : Dev nD) (s : Fin 4) (i : Idx ((c : Thread nD τ).loc cc0_scratch0)) : i ∈ slots c s ↔ (i 0).val = s.val := mem_slot s i
theorem slots_disjoint (c : Dev nD) : ∀ s s' : Fin 4, s ≠ s' → Disjoint (slots c s) (slots c s') := by
  intro s s' hs
  rw [Finset.disjoint_left]
  intro i h h'
  exact hs (Fin.ext (((mem_slots c s i).mp h).symm.trans ((mem_slots c s' i).mp h')))
theorem slots_cover (c : Dev nD) : Finset.univ.biUnion (slots c) = Finset.univ := by
  refine Finset.eq_univ_iff_forall.mpr fun i => ?_
  have hi : (i 0).val < 4 := (i 0).isLt
  exact Finset.mem_biUnion.mpr ⟨⟨(i 0).val, hi⟩, Finset.mem_univ _, (mem_slots c _ i).mpr rfl⟩

theorem scratch_split (c : Dev nD) (f : Buf (Elt F) ((c : Thread nD τ).loc cc0_scratch0)) :
    (((c : Thread nD τ).loc cc0_scratch0) ↦{fullShare} f : sProp 𝕄) ⊢ bigSep Finset.univ fun s : Fin 4 => SltR c s true := by
  rw [Ring.pointsTo_blocks (ℓ := (c : Thread nD τ).loc cc0_scratch0) (slots c) (slots_disjoint c) (slots_cover c) f]
  exact bigSep_mono fun s _ => slot_some c s f
include m in
theorem scratch_join (c : Dev nD) : (bigSep Finset.univ fun s : Fin 4 => SltR (F := F) c s true)
    ⊢ (iprop(∃ f, ((c : Thread nD τ).loc cc0_scratch0) ↦{fullShare} f) : sProp 𝕄) :=
  Ring.pointsTo_blocks_join_exists (ℓ := (c : Thread nD τ).loc cc0_scratch0) (slots c) (slots_disjoint c) (slots_cover c)
    (m ((c : Thread nD τ).loc cc0_scratch0))

end Cert.GatherIdeal
-- ==== Proof.Body.lean ====
/-
# `Body`: one device's run

The kernel's body on a device, from its buffers, tokens and positions: it signals its three neighbours, each time handing
over the landing places there, waits for theirs, and runs the operations; it ends with the argument as it was, the gathered
output, and every semaphore at zero.
-/
module

public import proofs.«01_k».proof.Proof.Blocks

@[expose] public section

noncomputable section

namespace Cert.GatherIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device owes and holds at the start -/

/-- What a device owes before its second and third signals, before its third, and before its first. -/
def O₂ (c : Dev nD) : CellTallies nD τ sig Unit := owing (fun _ => true) c + tallyAt (barCell (nb 2 c)) () 1
def O₁ (c : Dev nD) : CellTallies nD τ sig Unit := O₂ c + tallyAt (barCell (nb 1 c)) () 1
def O₀ (c : Dev nD) : CellTallies nD τ sig Unit := O₁ c + tallyAt (barCell (nb 0 c)) () 1

/-- The duty tokens a device pays with. -/
def payToks (c : Dev nD) : sProp 𝕄 :=
  iprop((dutyTok ER (barCell (nb 0 c)) 0 (0 : Fin 3) ∗ dutyTok ER (barCell (nb 1 c)) 0 (1 : Fin 3) ∗ dutyTok ER (barCell (nb 2 c)) 0 (2 : Fin 3))
    ∗ bigSep Finset.univ (fun t : T => dutyTok ER (sndCell c t) 0 (0 : Fin 3))
    ∗ bigSep Finset.univ fun t : T => dutyTok ER (rcvCell (nb t.dir c) t) 0 (0 : Fin 3))
/-- Its positions at its cells. -/
def poss (c : Dev nD) : sProp 𝕄 :=
  iprop(atPos ER (barCell c) 0 ∅ 0 ∗ bigSep Finset.univ (fun t : T => atPos ER (sndCell c t) 0 ∅ 0)
    ∗ bigSep Finset.univ fun t : T => atPos ER (rcvCell c t) 0 ∅ 0)
/-- The promises its waits rely on. -/
def creds (c : Dev nD) : sProp 𝕄 :=
  iprop(cred (tallyAt (barCell c) () 3) ∗ bigSep Finset.univ fun t : T => cred (tallyAt (rcvCell c t) () N))
/-- Its local copy's semaphores at zero. -/
def locals (c : Dev nD) : sProp 𝕄 :=
  iprop(bigSep Finset.univ (fun s => LdR (F := F) c s true) ∗ bigSep Finset.univ (fun s => StR (F := F) c s true))

/-- Before the body. -/
def Φ₀ (c : Dev nD) : sProp 𝕄 :=
  iprop((∃ K, Ctx m K) ∗ payToks c ∗ poss c ∗ creds c ∗ locals c ∗ (((c : Thread nD τ).loc main_arg0) ↦{fullShare} arg m c)
    ∗ (∃ f, ((c : Thread nD τ).loc main_v1) ↦{fullShare} f) ∗ ∃ f, ((c : Thread nD τ).loc cc0_scratch0) ↦{fullShare} f)

/-- After it. -/
def Φ₁ (c : Dev nD) : sProp 𝕄 :=
  iprop((((c : Thread nD τ).loc main_arg0) ↦{fullShare} arg m c) ∗ (((c : Thread nD τ).loc main_v1) ↦{fullShare} fin m c)
    ∗ (∃ f, ((c : Thread nD τ).loc cc0_scratch0) ↦{fullShare} f)
    ∗ semVal (barCell c) 0 ∗ (bigSep Finset.univ fun t : T => semVal (sndCell c t) 0) ∗ (bigSep Finset.univ fun t : T => semVal (rcvCell c t) 0)
    ∗ locals c)

/-! ## Putting a device's holdings together -/

theorem todo_σ₀ : σ₀.todo = fun _ => true := rfl
theorem todo_σ₁ : σ₁.todo = fun _ => false := rfl

/-- The landing places a device has, handed to its three neighbours. -/
theorem rooms (c : Dev nD) (f : Buf (Elt F) ((c : Thread nD τ).loc main_v1)) :
    (bigSep Finset.univ fun t : T => landPts c t fullShare f)
      ⊢ iprop(barPay (nb 0 c) 0 ∗ barPay (nb 1 c) 1 ∗ barPay (nb 2 c) 2) := by
  unfold barPay
  rw [← bigSep_sep', ← bigSep_sep']
  refine bigSep_mono fun t _ => ?_
  have h : ∀ d, t.dir = d → (landPts c t fullShare f ⊢ roomPts (F := F) (nb d c) t) := fun d hd => by
    subst hd
    unfold roomPts
    rw [nb_nb]
    iintro H; iexists f; iexact H
  show landPts c t fullShare f ⊢ iprop((if t.dir = 0 then roomPts (F := F) (nb 0 c) t else iprop(emp))
    ∗ (if t.dir = 1 then roomPts (F := F) (nb 1 c) t else iprop(emp)) ∗ (if t.dir = 2 then roomPts (F := F) (nb 2 c) t else iprop(emp)))
  have hd : t.dir = 0 ∨ t.dir = 1 ∨ t.dir = 2 := by cases t <;> simp [T.dir]
  rcases hd with hd | hd | hd
  · rw [if_pos hd, if_neg (by rw [hd]; decide), if_neg (by rw [hd]; decide)]
    iintro H
    isplitl [H]; · iapply (h 0 hd); iexact H
    isplitr; · iempintro
    iempintro
  · rw [if_neg (by rw [hd]; decide), if_pos hd, if_neg (by rw [hd]; decide)]
    iintro H
    isplitr; · iempintro
    isplitl [H]; · iapply (h 1 hd); iexact H
    iempintro
  · rw [if_neg (by rw [hd]; decide), if_neg (by rw [hd]; decide), if_pos hd]
    iintro H
    isplitr; · iempintro
    isplitr; · iempintro
    iapply (h 2 hd); iexact H

/-- Every transfer yet to be issued. -/
theorem snd_start (c : Dev nD) :
    iprop((bigSep Finset.univ fun t : T => roomPts (F := F) c t) ∗ (bigSep Finset.univ fun t : T => dutyTok ER (sndCell c t) 0 (0 : Fin 3))
        ∗ (bigSep Finset.univ fun t : T => dutyTok ER (rcvCell (nb t.dir c) t) 0 (0 : Fin 3)) ∗ bigSep Finset.univ fun t : T => atPos ER (sndCell c t) 0 ∅ 0)
      ⊢ bigSep Finset.univ fun t : T => SndR (F := F) c t 0 := by
  rw [← bigSep_sep', ← bigSep_sep', ← bigSep_sep']
  exact BI.Entails.refl _
/-- Every transfer yet to arrive. -/
theorem rcv_start (c : Dev nD) :
    iprop((bigSep Finset.univ fun t : T => cred (tallyAt (rcvCell c t) () N)) ∗ bigSep Finset.univ fun t : T => atPos ER (rcvCell c t) 0 ∅ 0)
      ⊢ bigSep Finset.univ fun t : T => RcvR (F := F) c t false := by
  rw [← bigSep_sep']
  exact BI.Entails.refl _
/-- The pieces at the start. -/
theorem pc_start (c : Dev nD) : (bigSep Finset.univ fun t : T => piece m c (.inl t)) ⊢ bigSep Finset.univ fun p : P => PcR m c p (σ₀.pc p) := by
  rw [bigSep_univ_sum]
  have e : (bigSep Finset.univ fun b : T × Bool => PcR m c (.inr b) (σ₀.pc (.inr b))) = iprop(emp) := bigSep_emp_const _
  rw [e]
  exact BI.sep_emp.2
/-- The pieces at the end: the argument's, and the landed chunks, whole again. -/
theorem pc_end (c : Dev nD) : (bigSep Finset.univ fun p : P => PcR m c p true)
    ⊢ iprop((bigSep Finset.univ fun t : T => piece m c (.inl t)) ∗ bigSep Finset.univ fun t : T => landPts c t fullShare (fin m c)) := by
  rw [bigSep_univ_sum, bigSep_univ_prod]
  refine BIClass.sep_mono (BI.Entails.refl _) (bigSep_mono fun t _ => ?_)
  rw [bigSep_univ_eq_bigSepL [false, true] (by decide) (by decide), bigSepL_cons_cons, bigSepL_singleton]
  exact land_join c t (fin m c)
/-- The slabs at the start and at the end. -/
theorem slab_start (c : Dev nD) (f : Buf (Elt F) ((c : Thread nD τ).loc main_v1)) :
    iprop((bigSep Finset.univ fun i : Fin 8 => xsPts m c i) ∗ bigSep Finset.univ fun i : Fin 8 => osPts c i f)
      ⊢ bigSep Finset.univ fun i : Fin 8 => SlabR m c i 0 := by
  rw [← bigSep_sep']
  refine bigSep_mono fun i _ => ?_
  show iprop(xsPts m c i ∗ osPts c i f) ⊢ iprop(xsPts m c i ∗ ∃ f, osPts c i f)
  iintro ⟨H, H'⟩
  isplitl [H]; · iexact H
  iexists f; iexact H'
theorem slab_end (c : Dev nD) : (bigSep Finset.univ fun i : Fin 8 => SlabR m c i 4)
    ⊢ iprop((bigSep Finset.univ fun i : Fin 8 => osPts c i (fin m c)) ∗ bigSep Finset.univ fun i : Fin 8 => xsPts m c i) := by
  rw [← bigSep_sep']
  exact BI.Entails.refl _

/-! ## The body -/

variable (K : Dev nD × CK → ℕ) (c : Dev nD)

/-- A signal to a neighbour: the unit owed there is paid, with the landing places. -/
theorem step_sig (d : Fin 3) (O' : CellTallies nD τ sig Unit) (W : Waits sig Unit) {Q : PUnit → sProp 𝕄}
    {k : Prog (TpuEff nD τ sig (Elt F) Λ₀ .tc) PUnit} :
    iprop(Ctx m K ∗ owes (c : Thread nD τ) (O' + tallyAt (barCell (nb d c)) () 1) W ∗ dutyTok ER (barCell (nb d c)) 0 d ∗ barPay (nb d c) d)
      ⊢ iprop((owes (c : Thread nD τ) O' W -∗ wp frame (wpE (defs₀ (F := F)) 𝒱₀ (c : Thread nD τ) none) Set.univ k Q)
        -∗ wp frame (wpE (defs₀ (F := F)) 𝒱₀ (c : Thread nD τ) none) Set.univ (.op (eff c (.sig d)) fun _ => k) Q) := by
  iintro ⟨#HC, HO, HT, HP⟩ Hk
  unfold eff
  iapply (Rounds.wp_signal 𝒱₀ ER (Rd m) (c : Thread nD τ) none (dst := (nb d c : Thread nD τ)) (κ := K (nb d c, .inl ()))
      (d := d) (by rw [duties_bar]; exact Finset.mem_univ _) ((amount_bar m (nb d c) d).trans (by decide)) () O' rfl)
    $$ [HO HT HP]
  · isplitr; · iapply (Ctx_bar m K (nb d c)); iexact HC
    isplitl [HO]; · iexact HO
    isplitl [HT]; · iexact HT
    isplitl [HP]; · rw [payload_bar]; iexact HP
    iapply (Ctx_rbar m K (nb d c)); iexact HC
  iexact Hk

/-- The barrier's wait: every landing place on the neighbours, and the barrier's semaphore at zero for good. -/
theorem step_bar (W : Waits sig Unit) {Q : PUnit → sProp 𝕄} {k : Prog (TpuEff nD τ sig (Elt F) Λ₀ .tc) PUnit} :
    iprop(Ctx m K ∗ owes (c : Thread nD τ) (owing (fun _ => true) c) W ∗ cred (tallyAt (barCell c) () 3) ∗ atPos ER (barCell c) 0 ∅ 0)
      ⊢ iprop((((∃ W', owes (c : Thread nD τ) (owing (fun _ => true) c) W') ∗ (bigSep Finset.univ fun t : T => roomPts (F := F) c t)
            ∗ semVal (barCell c) 0)
          -∗ wp frame (wpE (defs₀ (F := F)) 𝒱₀ (c : Thread nD τ) none) Set.univ k Q)
        -∗ wp frame (wpE (defs₀ (F := F)) 𝒱₀ (c : Thread nD τ) none) Set.univ (.op (eff c .bar) fun _ => k) Q) := by
  iintro ⟨#HC, HO, Hcr, Hat⟩ Hk
  unfold eff
  iapply (Rounds.wp_wait_rest_token 𝒱₀ ER (Rd m) (c : Thread nD τ) none (κ := K (c, .inl ()))
      (wpE_semWait_eq 𝒱₀ (c : Thread nD τ) none Set.univ) (Set.mem_univ _) () (O := owing (fun _ => true) c) (W := W) (R := 0) (m := 0) (T := ∅)
      (by rw [expect_bar]; decide)) $$ [Hcr HO Hat]
  · isplitr; · iapply (Ctx_bar m K c); iexact HC
    isplitl [Hcr]; · iexact Hcr
    isplitl [HO]; · iexact HO
    isplitr
    · iapply (mayWait (fun _ => true) c (.reg barS) 1 (lv_bar c ()) (fun u _ => lt_of_lt_of_le (by decide) (two_le_lvT u)))
      iapply (Ctx_lev m K); iexact HC
    iexact Hat
  iintro ⟨HO, Hat, -, Hpay⟩
  ihave Hroom := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (Ctx_bar m K c); iexact HC
    iexact Hat
  iapply Hk
  isplitl [HO]; · iexists _; iexact HO
  isplitl [Hroom]; · iexact Hroom
  iexact Hz

/-- What a device holds right after the barrier is the first state. -/
theorem st_start (f : Buf (Elt F) ((c : Thread nD τ).loc main_v1)) :
    iprop(((bigSep Finset.univ fun t : T => roomPts (F := F) c t) ∗ (bigSep Finset.univ fun t : T => dutyTok ER (sndCell c t) 0 (0 : Fin 3))
        ∗ (bigSep Finset.univ fun t : T => dutyTok ER (rcvCell (nb t.dir c) t) 0 (0 : Fin 3)) ∗ bigSep Finset.univ fun t : T => atPos ER (sndCell c t) 0 ∅ 0)
      ∗ ((bigSep Finset.univ fun t : T => cred (tallyAt (rcvCell c t) () N)) ∗ bigSep Finset.univ fun t : T => atPos ER (rcvCell c t) 0 ∅ 0)
      ∗ (bigSep Finset.univ fun t : T => piece m c (.inl t))
      ∗ ((bigSep Finset.univ fun i : Fin 8 => xsPts m c i) ∗ bigSep Finset.univ fun i : Fin 8 => osPts c i f)
      ∗ (bigSep Finset.univ fun s : Fin 4 => SltR (F := F) c s true) ∗ locals c ∗ ∃ W, owes (c : Thread nD τ) (owing (fun _ => true) c) W)
      ⊢ St m c σ₀ := by
  unfold St locals
  iintro ⟨HS, HR, HP, HL, HT, ⟨HA, HB⟩, HO⟩
  isplitl [HS]; · iapply (snd_start c); iexact HS
  isplitl [HR]; · iapply (rcv_start c); iexact HR
  isplitl [HP]; · iapply (pc_start m c); iexact HP
  isplitl [HL]; · iapply (slab_start m c f); iexact HL
  isplitl [HT]; · iexact HT
  isplitl [HA]; · iexact HA
  isplitl [HB]; · iexact HB
  iexact HO

theorem St_σ₁ : St m c σ₁ = iprop((bigSep Finset.univ fun t : T => semVal (sndCell c t) 0) ∗ (bigSep Finset.univ fun t : T => semVal (rcvCell c t) 0)
    ∗ (bigSep Finset.univ fun p : P => PcR m c p true) ∗ (bigSep Finset.univ fun i : Fin 8 => SlabR m c i 4)
    ∗ (bigSep Finset.univ fun s : Fin 4 => SltR (F := F) c s true) ∗ (bigSep Finset.univ fun s => LdR (F := F) c s true)
    ∗ (bigSep Finset.univ fun s => StR (F := F) c s true) ∗ ∃ W, owes (c : Thread nD τ) 0 W) := by
  unfold St
  rw [todo_σ₁, owing_none]
  rfl

/-- The last state, with the rest of the argument and the barrier's semaphore, is what the body leaves. -/
theorem st_end : iprop(St m c σ₁ ∗ xrest m c ∗ semVal (barCell c) 0) ⊢ iprop(Φ₁ m c ∗ ∃ W, owes (c : Thread nD τ) 0 W) := by
  rw [St_σ₁]
  unfold Φ₁ locals
  iintro ⟨⟨HS, HR, HP, HL, HT, HA, HB, HO⟩, Hx, Hz⟩
  icases (pc_end m c) $$ HP with ⟨HP, HQ⟩
  icases (slab_end m c) $$ HL with ⟨HL, HM⟩
  isplitr [HO]
  · isplitl [HP Hx HM]
    · iapply (arg_join m c)
      isplitl [HP]; · iexact HP
      isplitl [Hx]; · iexact Hx
      iexact HM
    isplitl [HQ HL]
    · rw [out_eq c (fin m c)]
      isplitl [HQ]; · iexact HQ
      iexact HL
    isplitl [HT]; · iapply (scratch_join m c); iexact HT
    isplitl [Hz]; · iexact Hz
    isplitl [HS]; · iexact HS
    isplitl [HR]; · iexact HR
    isplitl [HA]; · iexact HA
    iexact HB
  iexact HO

theorem prog_cons (o : Op) (l : List Op) : prog (F := F) c (o :: l) = .op (eff c o) fun _ => prog c l := rfl
theorem ops_eq : ops = .sig 0 :: .sig 1 :: .sig 2 :: .bar :: opsMain := rfl

/-- The body, run from `Φ₀` to `Φ₁`. -/
theorem body (t : Fin cfg0.N) (W : Waits sig Unit) :
    iprop(Φ₀ m c ∗ owes (c : Thread nD τ) (O₀ c) W)
      ⊢ wp frame (wpE (defs₀ (F := F)) 𝒱₀ (c : Thread nD τ) none) Set.univ (bodyAt0 (F := F) t)
          fun _ => iprop(Φ₁ m c ∗ ∃ W', owes (c : Thread nD τ) 0 W') := by
  rw [body_eq t]
  simp only [wp_deviceId]
  rw [ops_eq, prog_cons, prog_cons, prog_cons, prog_cons]
  unfold Φ₀ payToks poss creds
  iintro ⟨⟨⟨%K, #HC⟩, ⟨⟨HT0, HT1, HT2⟩, HTs, HTr⟩, ⟨HaB, Has, Har⟩, ⟨HcB, Hcr⟩, Hloc, Hx, ⟨%f, Hout⟩, ⟨%g, Hscr⟩⟩, HO⟩
  icases (arg_split m c) $$ Hx with ⟨Hp, Hxr, Hxs⟩
  icases (Entails.of_eq (out_eq c f)) $$ Hout with ⟨Hl, Hos⟩
  icases (rooms c f) $$ Hl with ⟨Hr0, Hr1, Hr2⟩
  ihave Hslt := (scratch_split c g) $$ Hscr
  unfold O₀
  iapply (step_sig m K c 0 (O₁ c) W) $$ [HO HT0 Hr0]
  · isplitr; · iexact HC
    isplitl [HO]; · iexact HO
    isplitl [HT0]; · iexact HT0
    iexact Hr0
  iintro HO
  unfold O₁
  iapply (step_sig m K c 1 (O₂ c) W) $$ [HO HT1 Hr1]
  · isplitr; · iexact HC
    isplitl [HO]; · iexact HO
    isplitl [HT1]; · iexact HT1
    iexact Hr1
  iintro HO
  unfold O₂
  iapply (step_sig m K c 2 (owing (fun _ => true) c) W) $$ [HO HT2 Hr2]
  · isplitr; · iexact HC
    isplitl [HO]; · iexact HO
    isplitl [HT2]; · iexact HT2
    iexact Hr2
  iintro HO
  iapply (step_bar m K c W) $$ [HO HcB HaB]
  · isplitr; · iexact HC
    isplitl [HO]; · iexact HO
    isplitl [HcB]; · iexact HcB
    iexact HaB
  iintro ⟨HO, Hroom, Hz⟩
  iapply (run m K c opsMain σ₀ runs_main)
  isplitr; · iexact HC
  isplitr [Hxr Hz]
  · iapply (st_start m c f)
    isplitl [Hroom HTs HTr Has]
    · isplitl [Hroom]; · iexact Hroom
      isplitl [HTs]; · iexact HTs
      isplitl [HTr]; · iexact HTr
      iexact Has
    isplitl [Hcr Har]
    · isplitl [Hcr]; · iexact Hcr
      iexact Har
    isplitl [Hp]; · iexact Hp
    isplitl [Hxs Hos]
    · isplitl [Hxs]; · iexact Hxs
      iexact Hos
    isplitl [Hslt]; · iexact Hslt
    isplitl [Hloc]; · iexact Hloc
    iexact HO
  rw [ends_main]
  iintro HSt
  iapply (st_end m c)
  isplitl [HSt]; · iexact HSt
  isplitl [Hxr]; · iexact Hxr
  iexact Hz

end Cert.GatherIdeal
-- ==== Proof.Ghost.lean ====
/-
# `Ghost`: what the launch deals

The launch's tokens, positions and records, dealt to the devices: every cell's invariant is allocated, each device keeps
its positions, and the token of every duty goes to the device that pays it. And the promises: what all devices owe a cell at
the start is what its owner waits for.
-/
module

public import proofs.«01_k».proof.Proof.Body

@[expose] public section

noncomputable section

namespace Cert.GatherIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells, tokens, semaphores -/

/-- A device's own semaphores: the transfers' and the local copy's. -/
abbrev OS : Type := (T ⊕ T) ⊕ (Fin 4 ⊕ Fin 4)
def osem : OS → SemLoc sig
  | .inl k => csem (.inr k)
  | .inr (.inl s) => .dma (ldS s)
  | .inr (.inr s) => .dma (stS s)

/-- A device's cells' duties: which cell, which duty. -/
abbrev TK : Type := Fin 3 ⊕ (T ⊕ T)
def duty : TK → CK × Fin 3
  | .inl d => (.inl (), d)
  | .inr k => (.inr k, 0)
theorem duty_inj : Function.Injective duty := by
  rintro (d | k) (d' | k') h
  · exact congrArg Sum.inl (congrArg Prod.snd h)
  · cases congrArg Prod.fst h
  · cases congrArg Prod.fst h
  · exact congrArg Sum.inr (Sum.inr.inj (congrArg Prod.fst h))

abbrev tokOf (x : Dev nD × TK) : GSem nD τ sig × ℕ × Fin 3 := (kcell (x.1, (duty x.2).1), 0, (duty x.2).2)
theorem tokOf_inj : Function.Injective tokOf := by
  rintro ⟨c, k⟩ ⟨c', k'⟩ h
  have h1 := kcell_inj (congrArg Prod.fst h)
  have h2 : (duty k).2 = (duty k').2 := congrArg (fun x : GSem nD τ sig × ℕ × Fin 3 => x.2.2) h
  have h3 : c = c' := congrArg Prod.fst h1
  have h4 : (duty k).1 = (duty k').1 := congrArg Prod.snd h1
  rw [h3, duty_inj (Prod.ext h4 h2)]

def allCells : Finset (GSem nD τ sig) := Finset.univ.map ⟨kcell, kcell_inj⟩
def allToks : Finset (GSem nD τ sig × ℕ × Fin 3) := Finset.univ.map ⟨tokOf, tokOf_inj⟩

/-- The duty tokens of a device's own cells. -/
def ownToks (c : Dev nD) : sProp 𝕄 :=
  iprop((bigSep Finset.univ fun d : Fin 3 => dutyTok ER (barCell c) 0 d) ∗ (bigSep Finset.univ fun t : T => dutyTok ER (sndCell c t) 0 (0 : Fin 3))
    ∗ bigSep Finset.univ fun t : T => dutyTok ER (rcvCell c t) 0 (0 : Fin 3))

/-- What the launch's element gives a device. -/
def G (c : Dev nD) : sProp 𝕄 :=
  iprop((bigSep Finset.univ fun k : CK => roundState ER (Rd m) (kcell (c, k)) 0) ∗ (bigSep Finset.univ fun k : CK => atPos ER (kcell (c, k)) 0 ∅ 0)
    ∗ (bigSep Finset.univ fun k : CK => reached ER (kcell (c, k)) 0) ∗ ownToks c)

/-- Every cell's invariant, and that every cell is at its round. -/
def Recs (K : Dev nD × CK → ℕ) : sProp 𝕄 :=
  iprop(bigSep Finset.univ (fun ck => cellInv ER (Rd m) (K ck) (kcell ck)) ∗ bigSep Finset.univ (fun ck => reached ER (kcell ck) 0))

instance Recs_persistent (K : Dev nD × CK → ℕ) : BI.Persistent (Recs m K) := by unfold Recs; infer_instance

/-- What a device has after all of them allocated their cells. -/
def G' (c : Dev nD) : sProp 𝕄 := iprop((∃ K, Recs m K) ∗ payToks c ∗ poss c ∗ locals c)

theorem bigSep_CK (Φ : CK → sProp 𝕄) : bigSep Finset.univ Φ
    = iprop(Φ (.inl ()) ∗ (bigSep Finset.univ fun t : T => Φ (.inr (.inl t))) ∗ bigSep Finset.univ fun t : T => Φ (.inr (.inr t))) := by
  rw [bigSep_univ_sum, bigSep_univ_sum, bigSep_univ_of_subsingleton ()]
  rfl

theorem deal_cells (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

theorem deal_toks : bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  rw [bigSep_univ_sum, bigSep_univ_sum]
  rfl

/-- The launch's element, dealt. -/
theorem deal : BI.own (ER (initOf allCells allToks)) ⊢ (|==> bigSep Finset.univ (G m) : sProp 𝕄) := by
  iintro H
  imod (Rounds.fund ER (Rd m) allCells allToks) $$ H with ⟨Hst, Hr, Hat, Htok⟩
  imodintro
  ihave Hst := (Entails.of_eq (deal_cells fun g => roundState ER (Rd m) g 0)) $$ Hst
  ihave Hat := (Entails.of_eq (deal_cells fun g => atPos ER g 0 ∅ 0)) $$ Hat
  ihave Hr := (Entails.of_eq (deal_cells fun g => reached ER g 0)) $$ Hr
  ihave Htok := (Entails.of_eq deal_toks) $$ Htok
  unfold G
  simp only [bigSep_sep']
  isplitl [Hst]; · iexact Hst
  isplitl [Hat]; · iexact Hat
  isplitl [Hr]; · iexact Hr
  iexact Htok

/-! ## The invariants -/

/-- A device's own semaphores at zero: the transfers', and the local copy's. -/
theorem own_eq (c : Dev nD) : (Pipeline.ownSems0 (Ix := Unit) (Name := ℕ) (U := UU) (Lvl := ℕ) (Val := Elt F) (τ := τ) osem c : sProp 𝕄)
    = iprop(((bigSep Finset.univ fun t : T => semVal (sndCell c t) 0) ∗ bigSep Finset.univ fun t : T => semVal (rcvCell c t) 0) ∗ locals c) := by
  unfold Pipeline.ownSems0
  rw [bigSep_univ_sum, bigSep_univ_sum, bigSep_univ_sum]
  rfl
/-- The barrier semaphore is the only one that lives beyond the kernel. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

theorem sems (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ locals c) : sProp 𝕄) := by
  rw [own_eq, unscoped_eq, bigSep_CK]
  iintro ⟨⟨⟨HS, HR⟩, HL⟩, HB⟩
  isplitr [HL]
  · isplitl [HB]; · iexact HB
    isplitl [HS]; · iexact HS
    iexact HR
  iexact HL

/-- One device's cells allocated. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CK => reached ER (kcell (c, k)) 0) ∗ ownToks c
          ∗ (bigSep Finset.univ fun k : CK => atPos ER (kcell (c, k)) 0 ∅ 0) ∗ locals c) := by
  unfold G
  iintro ⟨Hos, Hus, Hst, Hat, Hr, Htok⟩
  icases (sems (F := F) c) $$ [Hos Hus] with ⟨Hv, HL⟩
  · isplitl [Hos]; · iexact Hos
    iexact Hus
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Htok]; · iexact Htok
  isplitl [Hat]; · iexact Hat
  iexact HL

/-! ## The tokens, to the payers -/

/-- The neighbour of a direction, as a permutation. -/
def nbE (d : Fin 3) : Dev nD ≃ Dev nD := ⟨nb d, nb d, nb_nb d, nb_nb d⟩

/-- A family over the devices and some parts, each part read at its neighbour instead. -/
theorem around {J : Type} [Fintype J] [DecidableEq J] (Φ : Dev nD → J → sProp 𝕄) (d : J → Fin 3) :
    (bigSep Finset.univ fun c => bigSep Finset.univ fun j => Φ c j) = bigSep Finset.univ fun c => bigSep Finset.univ fun j => Φ (nb (d j) c) j := by
  rw [bigSep_univ_comm, bigSep_univ_comm (fun c j => Φ (nb (d j) c) j)]
  exact bigSep_congr fun j _ => bigSep_univ_equiv (nbE (d j)) fun c => Φ c j

theorem pay_bar (c : Dev nD) : (bigSep Finset.univ fun d : Fin 3 => (dutyTok ER (barCell (nb d c)) 0 d : sProp 𝕄))
    = iprop(dutyTok ER (barCell (nb 0 c)) 0 (0 : Fin 3) ∗ dutyTok ER (barCell (nb 1 c)) 0 (1 : Fin 3) ∗ dutyTok ER (barCell (nb 2 c)) 0 (2 : Fin 3)) :=
  bigSep_univ_eq_bigSepL [0, 1, 2] (by decide) (by decide) _

/-- Every duty's token to the device that pays it. -/
theorem toks_move : (bigSep Finset.univ fun c : Dev nD => (ownToks c : sProp 𝕄)) = bigSep Finset.univ fun c : Dev nD => payToks c := by
  unfold ownToks payToks
  simp only [bigSep_sep']
  rw [around (fun c d => (dutyTok ER (barCell c) 0 d : sProp 𝕄)) fun d => d,
    around (fun c t => (dutyTok ER (rcvCell c t) 0 (0 : Fin 3) : sProp 𝕄)) T.dir]
  rw [bigSep_congr fun c _ => pay_bar c, bigSep_sep', bigSep_sep']

theorem poss_eq (c : Dev nD) : (bigSep Finset.univ fun k : CK => (atPos ER (kcell (c, k)) 0 ∅ 0 : sProp 𝕄)) = poss c := by
  rw [bigSep_CK]; rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : CK => reached ER (kcell (c, k)) 0) ∗ ownToks c
          ∗ (bigSep Finset.univ fun k : CK => atPos ER (kcell (c, k)) 0 ∅ 0) ∗ locals c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄)), toks_move]
  iintro ⟨HI, #HR, Htok, Hrest⟩
  ihave HK := (BI.bigSep_exists_pi Finset.univ (fun (ck : Dev nD × CK) (κ : ℕ) => (cellInv ER (Rd m) κ (kcell ck) : sProp 𝕄))) $$ HI
  icases HK with ⟨%K, #HI⟩
  iapply (with_persistent (R := Recs m K) (Φ := fun c : Dev nD => iprop(payToks c ∗ (bigSep Finset.univ fun k : CK => atPos ER (kcell (c, k)) 0 ∅ 0) ∗ locals c))
    fun c _ => by
      rw [poss_eq]
      unfold G'
      iintro ⟨#HR, HT⟩
      isplitr; · iexists K; iexact HR
      iexact HT)
  isplitr
  · unfold Recs
    isplitr; · iexact HI
    iexact HR
  iapply (Entails.of_eq (bigSep_sep' Finset.univ (fun c : Dev nD => (payToks c : sProp 𝕄))
    fun c => iprop((bigSep Finset.univ fun k : CK => atPos ER (kcell (c, k)) 0 ∅ 0) ∗ locals c)).symm)
  isplitl [Htok]; · iexact Htok
  iexact Hrest

/-- All devices' cells allocated, and the tokens moved. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The promises -/

theorem eq_nb {d : Fin 3} {c c' : Dev nD} : c = nb d c' ↔ c' = nb d c :=
  ⟨fun h => by rw [h, nb_nb], fun h => by rw [h, nb_nb]⟩

theorem bar_iff (d : Fin 3) (c c' : Dev nD) : (barCell c = barCell (nb d c') ∧ () = ()) ↔ c' = nb d c := by
  rw [← eq_nb]
  exact ⟨fun h => congrArg (fun g : GSem nD τ sig => g.1.1) h.1, fun h => ⟨by rw [h], rfl⟩⟩

theorem rcv_ne_bar (c c' : Dev nD) (t : T) : rcvCell c t ≠ barCell c' := fun h => by cases congrArg Prod.snd h

/-- What a device owes a receive cell: a chunk's credit if it is the neighbour of the transfer's direction. -/
theorem owing_rcv (c c' : Dev nD) (t : T) : owing (fun _ => true) c' (rcvCell c t) () = if c' = nb t.dir c then N else 0 := by
  unfold owing
  rw [Finset.sum_apply, Finsupp.finset_sum_apply, Finset.sum_eq_single t]
  · rw [if_pos rfl, tallyAt_apply]
    refine if_congr ?_ rfl rfl
    rw [← eq_nb]
    exact ⟨fun h => congrArg (fun g : GSem nD τ sig => g.1.1) h.1, fun h => ⟨by rw [h], rfl⟩⟩
  · intro t' _ ht
    rw [if_pos rfl, tallyAt_apply, if_neg]
    rintro ⟨h, -⟩
    have := csem_inj (show csem (.inr (.inr t)) = csem (.inr (.inr t')) from congrArg Prod.snd h)
    exact ht (Sum.inr.inj (Sum.inr.inj this)).symm
  · exact fun h => absurd (Finset.mem_univ _) h

theorem owing_bar (c c' : Dev nD) : owing (fun _ => true) c' (barCell c) () = 0 := by
  unfold owing
  rw [Finset.sum_apply, Finsupp.finset_sum_apply]
  refine Finset.sum_eq_zero fun t _ => ?_
  rw [if_pos rfl, tallyAt_apply, if_neg fun h => rcv_ne_bar _ _ _ h.1.symm]

theorem O₀_rcv (c c' : Dev nD) (t : T) : O₀ c' (rcvCell c t) () = if c' = nb t.dir c then N else 0 := by
  unfold O₀ O₁ O₂
  simp only [Pi.add_apply, Finsupp.add_apply]
  have hn : ∀ d, ¬(rcvCell c t = barCell (nb d c') ∧ () = ()) := fun d h => rcv_ne_bar _ _ _ h.1
  rw [owing_rcv, tallyAt_apply, tallyAt_apply, tallyAt_apply, if_neg (hn 2), if_neg (hn 1), if_neg (hn 0)]
  rfl

theorem O₀_bar (c c' : Dev nD) : O₀ c' (barCell c) ()
    = (if c' = nb 2 c then 1 else 0) + (if c' = nb 1 c then 1 else 0) + (if c' = nb 0 c then 1 else 0) := by
  unfold O₀ O₁ O₂
  simp only [Pi.add_apply, Finsupp.add_apply]
  rw [owing_bar, tallyAt_apply, tallyAt_apply, tallyAt_apply, Nat.zero_add]
  congr 1
  · congr 1
    · exact if_congr (bar_iff 2 c c') rfl rfl
    · exact if_congr (bar_iff 1 c c') rfl rfl
  · exact if_congr (bar_iff 0 c c') rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar c d, Finset.sum_add_distrib, Finset.sum_add_distrib,
    Finset.sum_ite_eq' Finset.univ (nb 2 c) fun _ => 1, Finset.sum_ite_eq' Finset.univ (nb 1 c) fun _ => 1,
    Finset.sum_ite_eq' Finset.univ (nb 0 c) fun _ => 1, if_pos (Finset.mem_univ _), if_pos (Finset.mem_univ _), if_pos (Finset.mem_univ _)]

theorem launch_rcv (c : Dev nD) (t : T) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => O₀_rcv c d t,
    Finset.sum_ite_eq' Finset.univ (nb t.dir c) fun _ => N, if_pos (Finset.mem_univ _)]

/-- A device's promises, out of what the launch credits it. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  have hi : Function.Injective fun t : T => SemLoc.dma (sig := sig) (rS t) := fun t t' h =>
    Sum.inr.inj (Sum.inr.inj (csem_inj (show csem (.inr (.inr t)) = csem (.inr (.inr t')) from h)))
  refine (bigSep_subset (t := Finset.univ.map ⟨_, hi⟩) fun s hs => ?_).trans ?_
  · obtain ⟨t, -, rfl⟩ := Finset.mem_map.mp hs
    exact Finset.mem_erase.mpr ⟨fun h => (by cases h), Finset.mem_univ _⟩
  · rw [bigSep_map]
    refine bigSep_mono fun t _ => ?_
    rw [← launch_rcv]
    exact BI.Entails.refl _

end Cert.GatherIdeal
-- ==== Proof.Run.lean ====
/-
# `Run`: the whole machine

Every weakly fair execution of the kernel on the eight devices ends, with each device's argument as launched, its result
gathered, and every semaphore at zero.
-/
module

public import proofs.«01_k».proof.Proof.Ghost
public import proofs.«01_k».proof.Proof.Gen.KernelIdeal.Frame
public import Idealize.ShloMosaic.Lib.Quiescent
public import Idealize.ShloMosaic.Lib.Pipeline.CollectiveSegs

@[expose] public section

noncomputable section

namespace Cert.GatherIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- The kernel has no window: only what a device holds and owes before and after its one point. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 16384 in
theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ iprop(emp))
    ⊢ wp frame (wpE (defs₀ (F := F)) 𝒱₀ (c : Thread nD τ) none) Set.univ (bodyAt0 (F := F) t0_0)
      fun _ => iprop(Φ₁ m c ∗ (dats m 0 c).owesAt () t0_0.succ ∗ iprop(emp))
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply (wp_mono frame (wpE (defs₀ (F := F)) 𝒱₀ (c : Thread nD τ) none) Set.univ (Q := fun _ => iprop(Φ₁ m c ∗ ∃ W', owes (c : Thread nD τ) 0 W')) fun _ => by
    iintro ⟨HΦ, %W', HO⟩
    isplitl [HΦ]; · iexact HΦ
    isplitl [HO]
    · iexists W'
      isplitr; · ipureintro; exact fun _ _ => Or.inl trivial
      iexact HO
    iempintro)
  iapply (body m c t0_0 W)
  isplitl [HΦ]; · iexact HΦ
  iexact HO

/-! ## The launch's side conditions -/

theorem ownSemFacts : Pipeline.OwnSemFacts cfg0.spec osem := by decide +kernel

def u₀ : UU :=
  (initOf (Pipeline.cells cfgs cellOf_inj) (Pipeline.launchToks cfgs cellOf_inj), (initOf allCells allToks, 1))

theorem ownU_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- What a device starts from, but for its scratch. -/
def start (c : Dev nD) : sProp 𝕄 :=
  iprop((∃ K, Ctx m K) ∗ payToks c ∗ poss c ∗ creds c ∗ locals c ∗ (((c : Thread nD τ).loc main_arg0) ↦{fullShare} arg m c)
    ∗ ∃ f, ((c : Thread nD τ).loc main_v1) ↦{fullShare} f)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨⟨Hx, Ho⟩, #Hlev, Hcr, -, ⟨%K, #HR⟩, Hpay, Hpos, Hloc⟩
  ihave Hc := (creds_intro (F := F) c) $$ Hcr
  imodintro
  isplitl
  · isplitr
    · iexists K
      unfold Ctx Recs
      icases HR with ⟨#H1, #H2⟩
      isplitr; · iexact H1
      isplitr; · iexact H2
      iexact Hlev
    isplitl [Hpay]; · iexact Hpay
    isplitl [Hpos]; · iexact Hpos
    isplitl [Hc]; · iexact Hc
    isplitl [Hloc]; · iexact Hloc
    isplitl [Hx]; · iexact Hx
    iexists _; iexact Ho
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨⟨H1, H2, H3, H4, H5, H6, H7⟩, -, Hs⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hs

/-- What a device ends with beyond its own semaphores and its scratch. -/
def finish (c : Dev nD) : sProp 𝕄 :=
  iprop((((c : Thread nD τ).loc main_arg0) ↦{fullShare} arg m c) ∗ (((c : Thread nD τ).loc main_v1) ↦{fullShare} fin m c) ∗ unscopedSems0 c)

theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq, own_eq]
  unfold Φ₁ finish
  rw [unscoped_eq]
  iintro ⟨Hx, Ho, Hs, Hb, HS, HR, HL⟩
  isplitl [Hx Ho Hb]
  · isplitl [Hx]; · iexact Hx
    isplitl [Ho]; · iexact Ho
    iexact Hb
  isplitl [HS HR HL]
  · isplitl [HS HR]
    · isplitl [HS]; · iexact HS
      iexact HR
    iexact HL
  iexact Hs

theorem waits (c : Dev nD) : (levAts L lv : sProp 𝕄) ⊢ Pipeline.cellsWaits cfgs (dats m) () 0 c :=
  Pipeline.cellsWaits_intro cfgs (dats m) () 0 c fun w => w.elim0

/-- What is read of a device at the end. -/
def Final (c : Dev nD) (s : MemSt nD τ sig (Elt F)) : Prop :=
  s.mem ((c : Thread nD τ).loc main_arg0) = arg m c ∧ s.mem ((c : Thread nD τ).loc main_v1) = fin m c
    ∧ ∀ sm : SemLoc sig, sm.isScoped .tc = false → s.sem ((c.tc : Thread nD τ), sm) = 0

/-- A buffer held whole is what the machine has. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) (Finset.univ : Finset Unit) (fun _ => ℓ) (fun _ => f) s'
  rw [bigSep_univ_of_subsingleton ()] at h
  iintro H
  icases (h) $$ H with ⟨%h, HS⟩
  isplitr; · ipureintro; exact h () (Finset.mem_univ _)
  iexact HS

theorem finish_read (c : Dev nD) (s' : Phys nD τ sig (Elt F)) :
    iprop(finish m c ∗ iprop(emp) ∗ SI s') ⊢ |={Set.univ}=> iprop(⌜Final m c s'.mem⌝ ∗ SI s') := by
  unfold finish
  iintro ⟨⟨Hx, Ho, Hu⟩, -, HSI⟩
  icases (read_one ((c : Thread nD τ).loc main_arg0) (arg m c) s') $$ [Hx HSI] with ⟨%h1, HSI⟩
  · isplitl [Hx]; · iexact Hx
    iexact HSI
  icases (read_one ((c : Thread nD τ).loc main_v1) (fin m c) s') $$ [Ho HSI] with ⟨%h2, HSI⟩
  · isplitl [Ho]; · iexact Ho
    iexact HSI
  imod (Pipeline.unscopedSems0_read (X := unscopedSems0 c) (c := c) fupd_intro s') $$ [Hu HSI] with ⟨%h3, HSI⟩
  · isplitl [Hu]; · iexact Hu
    iexact HSI
  imodintro
  isplitr; · ipureintro; exact ⟨h1, h2, h3⟩
  iexact HSI

/-! ## The run -/

set_option maxRecDepth 8000 in
/-- From any memory with every semaphore at zero, every weakly fair execution of the eight devices ends, each argument as it
    was, each result gathered, every semaphore at zero. -/
theorem run_main : θ_run defs (onTc (τ := τ) (main (F := F))) ⟨m, fun _ => 0, ρ⟩ (fun r =>
    (∀ c : Dev nD, r.2.mem ((c : Thread nD τ).loc main_v1) = fin m c ∧ r.2.mem ((c : Thread nD τ).loc main_arg0) = arg m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_split _ _) $$ Hu with ⟨HP, HX⟩
      imod (deal m) $$ HX with HG
      imodintro
      isplitl [HP]; · iexact HP
      iexact HG)
    (hglob := glob m)
    (hA := fun _ w => w.elim0) (hpf := fun _ k => k.elim0)
    (X := start m) (Y := finish m) (Z := fun _ => iprop(emp))
    (hX := start_intro m ρ) (hin := phi0_intro m) (hout := phi1_exit m)
    (QY := Final m) (hY := finish_read m)
    (hQ := fun s h hs => ⟨fun c => ⟨(h c).2.2.2.1, (h c).2.2.1⟩, sem_eq_zero hs fun c => (h c).2.2.2.2⟩)

end Cert.GatherIdeal
-- ==== Proof.Ref.lean ====
/-
# `Ref`: the reference's run

The reference returns its argument: it has no operation, no scoped buffer and no semaphore, so it ends at once with its
memory as it was.
-/
module

public import proofs.«01_k».proof.Proof.Gen.ReferenceIdeal
public import Idealize.ShloMosaic.Lib.StableHlo.Run
public import Idealize.ShloMosaic.Lib.Quiescent

@[expose] public section

noncomputable section

namespace Cert.GatherRef

open Cert.ReferenceIdeal Cert.ReferenceIdeal.Gen
open Idealize.ShloMosaic Idealize.ShloMosaic.TcCoe Idealize.ShloMosaic.StableHlo Idealize.SL.Sem

variable {F : FTy → Type} [FloatOps F]

/-- The reference ends with its argument, which is its result, as it was, and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems rfl r.2⟩)
    (run_seq (by decide) (by decide) defs main (fun _ => []) (fun _ => rfl) (fun _ => trivial) m ρ)

end Cert.GatherRef
-- ==== Proof.Value.lean ====
/-
# `Value`: the gathered array is the whole array

When every device's argument is its half of one array, the gathered contents are that array, on every device.
-/
module

public import proofs.«01_k».proof.Proof.Geo
public import Idealize.ShloMosaic.Lib.Layout

@[expose] public section

noncomputable section

namespace Cert.GatherIdeal

open Cert.KernelIdeal Cert.KernelIdeal.Gen
open Idealize.ShloMosaic
open Idealize.ShloMosaic.TcCoe

variable {F : FTy → Type} [FloatOps F]

variable (m : (ℓ : Loc nD τ sig) → Buf (Elt F) ℓ)

/-- The half a device holds is the one of its first mesh coordinate; columns are not cut. -/
theorem half_val : ∀ o : Dev nD, ((Layout.meshBlock [2, 2, 2] ![[0], []] o) 0).val = o.val / 4
    ∧ ((Layout.meshBlock [2, 2, 2] ![[0], []] o) 1).val = 0 := by decide +kernel

/-- From arguments that are the halves of `v`, the gathered contents are `v`. -/
theorem fin_eq (v : S16384x1024.Idx → Elt F .f32)
    (h : ∀ c : Dev nD, m ((c.tc : Thread nD τ).loc main_arg0)
      = Layout.blockN ⟨2, ![8192, 1024]⟩ ⟨2, ![16384, 1024]⟩ (Layout.meshBlock [2, 2, 2] ![[0], []] c) v) (c : Dev nD) :
    fin m c = v := by
  funext i
  have hi : (i 0).val < 16384 := (i 0).isLt
  have ho := origin_half c ((i 0).val / 256) (by omega)
  refine (fin_apply m c _ i (xIdx ((i 0).val % 8192) (Nat.mod_lt _ (by decide)) (i 1)) rfl rfl rfl).trans ?_
  generalize origin c ((i 0).val / 256) = o at ho
  refine (congrFun (h o) _).trans ?_
  rw [Layout.blockN_apply]
  refine congrArg v (funext fun a => Fin.ext ?_)
  rw [Layout.TilesN.idx_val]
  match a with
  | 0 =>
    show ((Layout.meshBlock [2, 2, 2] ![[0], []] o) 0).val * 8192 + (i 0).val % 8192 = (i 0).val
    rw [(half_val o).1, ho]; omega
  | 1 =>
    show ((Layout.meshBlock [2, 2, 2] ![[0], []] o) 1).val * 1024 + (i 1).val = (i 1).val
    rw [(half_val o).2]; omega

end Cert.GatherIdeal
-- ==== Proof.lean ====
/-
The proof of the five claims: both printings of the kernel end quiescent with their arguments unchanged (`Run`, `RunBits`),
so does the reference (`Ref`), the idealization rewrote nothing, and the gathered result is the reference's (`Value`).
-/
module

public import proofs.«01_k».proof.Defs
public import proofs.«01_k».proof.Proof.Run
public import proofs.«01_k».proof.Proof.RunBits
public import proofs.«01_k».proof.Proof.Ref
public import proofs.«01_k».proof.Proof.Value

@[expose] public section

noncomputable section

namespace Cert.Proof

open Idealize.ShloMosaic Idealize.SL.Sem

/-- The kernel as printed. -/
theorem frame_kernel : Cert.quiescent_Kernel (hKernel := Cert.Kernel.Gen.facts) := fun m g _ =>
  (θ_run _ _ _).mono (fun _ h => ⟨fun c => (h.1 c).2, h.2⟩) (Cert.GatherBits.run_main m g)

/-- The kernel idealized. -/
theorem frame_ideal : Cert.quiescent_KernelIdeal (hKernelIdeal := Cert.KernelIdeal.Gen.facts) := fun m g _ =>
  (θ_run _ _ _).mono (fun _ h => ⟨fun c => (h.1 c).2, h.2⟩) (Cert.GatherIdeal.run_main m g)

/-- The reference. -/
theorem frame_ref : Cert.quiescent_ReferenceIdeal (hReferenceIdeal := Cert.ReferenceIdeal.Gen.facts) := fun m g _ =>
  Cert.GatherRef.run_main m g

/-- The kernel's result is the reference's, on every device. -/
theorem value : Cert.algebraic_KernelIdeal_ReferenceIdeal (hKernelIdeal := Cert.KernelIdeal.Gen.facts)
    (hReferenceIdeal := Cert.ReferenceIdeal.Gen.facts) := fun m g m' g' _ h =>
  ⟨m' _, (θ_run _ _ _).mono (fun _ hr c => ⟨(hr.1 c).1.trans (Cert.GatherIdeal.fin_eq m _ h c), (hr.1 c).2⟩) (Cert.GatherIdeal.run_main m g),
    (θ_run _ _ _).mono (fun _ hr => ⟨hr.1 0, hr.1 0⟩) (Cert.GatherRef.run_main m' g')⟩

theorem claim : Cert.Claim := ⟨Cert.Kernel.Gen.facts, Cert.KernelIdeal.Gen.facts, Cert.ReferenceIdeal.Gen.facts,
  frame_kernel, frame_ideal, frame_ref, trivial, value⟩

end Cert.Proof

end
